-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainRefIdeal (m : (ℓ : Loc Cert.MainRefIdeal.nD Cert.MainRefIdeal.τ Cert.MainRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3)
      ∧ r.2.mem ((c.tc : Thread Cert.MainRefIdeal.nD Cert.MainRefIdeal.τ).loc Cert.MainRefIdeal.main_arg4) = m ((c.tc : Thread Cert.MainRefIdeal.nD Cert.MainRefIdeal.τ).loc Cert.MainRefIdeal.main_arg4)
      ∧ r.2.mem ((c.tc : Thread Cert.MainRefIdeal.nD Cert.MainRefIdeal.τ).loc Cert.MainRefIdeal.main_arg5) = m ((c.tc : Thread Cert.MainRefIdeal.nD Cert.MainRefIdeal.τ).loc Cert.MainRefIdeal.main_arg5)
      ∧ r.2.mem ((c.tc : Thread Cert.MainRefIdeal.nD Cert.MainRefIdeal.τ).loc Cert.MainRefIdeal.main_arg6) = m ((c.tc : Thread Cert.MainRefIdeal.nD Cert.MainRefIdeal.τ).loc Cert.MainRefIdeal.main_arg6)
      ∧ r.2.mem ((c.tc : Thread Cert.MainRefIdeal.nD Cert.MainRefIdeal.τ).loc Cert.MainRefIdeal.main_arg7) = m ((c.tc : Thread Cert.MainRefIdeal.nD Cert.MainRefIdeal.τ).loc Cert.MainRefIdeal.main_arg7))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3))
      ∧ r.2.sem = fun _ => 0)

def preserves_Main_MainIdeal : Prop :=
  True

def algebraic_MainIdeal_MainRefIdeal [hMainIdeal : Cert.MainIdeal.Facts] [hMainRefIdeal : Cert.MainRefIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)
      ∧ m' ((c.tc : Thread Cert.MainRefIdeal.nD Cert.MainRefIdeal.τ).loc Cert.MainRefIdeal.main_arg2) = m ((c.tc : Thread Cert.MainIdeal.nD Cert.MainIdeal.τ).loc Cert.MainIdeal.main_arg2)
      ∧ m' ((c.tc : Thread Cert.MainRefIdeal.nD Cert.MainRefIdeal.τ).loc Cert.MainRefIdeal.main_arg3) = m ((c.tc : Thread Cert.MainIdeal.nD Cert.MainIdeal.τ).loc Cert.MainIdeal.main_arg3)
      ∧ m' ((c.tc : Thread Cert.MainRefIdeal.nD Cert.MainRefIdeal.τ).loc Cert.MainRefIdeal.main_arg4) = m ((c.tc : Thread Cert.MainIdeal.nD Cert.MainIdeal.τ).loc Cert.MainIdeal.main_arg4)
      ∧ m' ((c.tc : Thread Cert.MainRefIdeal.nD Cert.MainRefIdeal.τ).loc Cert.MainRefIdeal.main_arg5) = m ((c.tc : Thread Cert.MainIdeal.nD Cert.MainIdeal.τ).loc Cert.MainIdeal.main_arg5)
      ∧ m' ((c.tc : Thread Cert.MainRefIdeal.nD Cert.MainRefIdeal.τ).loc Cert.MainRefIdeal.main_arg6) = m ((c.tc : Thread Cert.MainIdeal.nD Cert.MainIdeal.τ).loc Cert.MainIdeal.main_arg6)
      ∧ m' ((c.tc : Thread Cert.MainRefIdeal.nD Cert.MainRefIdeal.τ).loc Cert.MainRefIdeal.main_arg7) = m ((c.tc : Thread Cert.MainIdeal.nD Cert.MainIdeal.τ).loc Cert.MainIdeal.main_arg7)) →
    ∃ (v0 : (c : Dev Cert.MainIdeal.nD) → Buf (Elt Ideal) ((c.tc : Thread Cert.MainIdeal.nD Cert.MainIdeal.τ).loc Cert.MainIdeal.main_v6_0)) (v1 : (c : Dev Cert.MainIdeal.nD) → Buf (Elt Ideal) ((c.tc : Thread Cert.MainIdeal.nD Cert.MainIdeal.τ).loc Cert.MainIdeal.main_v6_2)) (v2 : (c : Dev Cert.MainIdeal.nD) → Buf (Elt Ideal) ((c.tc : Thread Cert.MainIdeal.nD Cert.MainIdeal.τ).loc Cert.MainIdeal.main_v6_4)) (v3 : (c : Dev Cert.MainIdeal.nD) → Buf (Elt Ideal) ((c.tc : Thread Cert.MainIdeal.nD Cert.MainIdeal.τ).loc Cert.MainIdeal.main_v6_5)) (v4 : (c : Dev Cert.MainIdeal.nD) → Buf (Elt Ideal) ((c.tc : Thread Cert.MainIdeal.nD Cert.MainIdeal.τ).loc Cert.MainIdeal.main_v6_7)) (v5 : (c : Dev Cert.MainIdeal.nD) → Buf (Elt Ideal) ((c.tc : Thread Cert.MainIdeal.nD Cert.MainIdeal.τ).loc Cert.MainIdeal.main_v6_8)) (v6 : (c : Dev Cert.MainIdeal.nD) → Buf (Elt Ideal) ((c.tc : Thread Cert.MainIdeal.nD Cert.MainIdeal.τ).loc Cert.MainIdeal.main_v6_9)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v6_0) = v0 c
          ∧ r.2.mem ((c.tc : Thread Cert.MainIdeal.nD Cert.MainIdeal.τ).loc Cert.MainIdeal.main_v6_2) = v1 c
          ∧ r.2.mem ((c.tc : Thread Cert.MainIdeal.nD Cert.MainIdeal.τ).loc Cert.MainIdeal.main_v6_4) = v2 c
          ∧ r.2.mem ((c.tc : Thread Cert.MainIdeal.nD Cert.MainIdeal.τ).loc Cert.MainIdeal.main_v6_5) = v3 c
          ∧ r.2.mem ((c.tc : Thread Cert.MainIdeal.nD Cert.MainIdeal.τ).loc Cert.MainIdeal.main_v6_7) = v4 c
          ∧ r.2.mem ((c.tc : Thread Cert.MainIdeal.nD Cert.MainIdeal.τ).loc Cert.MainIdeal.main_v6_8) = v5 c
          ∧ r.2.mem ((c.tc : Thread Cert.MainIdeal.nD Cert.MainIdeal.τ).loc Cert.MainIdeal.main_v6_9) = v6 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v8_0) = v0 c
          ∧ r.2.mem ((c.tc : Thread Cert.MainRefIdeal.nD Cert.MainRefIdeal.τ).loc Cert.MainRefIdeal.main_v8_1) = v1 c
          ∧ r.2.mem ((c.tc : Thread Cert.MainRefIdeal.nD Cert.MainRefIdeal.τ).loc Cert.MainRefIdeal.main_v8_2) = v2 c
          ∧ r.2.mem ((c.tc : Thread Cert.MainRefIdeal.nD Cert.MainRefIdeal.τ).loc Cert.MainRefIdeal.main_v8_3) = v3 c
          ∧ r.2.mem ((c.tc : Thread Cert.MainRefIdeal.nD Cert.MainRefIdeal.τ).loc Cert.MainRefIdeal.main_v8_4) = v4 c
          ∧ r.2.mem ((c.tc : Thread Cert.MainRefIdeal.nD Cert.MainRefIdeal.τ).loc Cert.MainRefIdeal.main_v8_5) = v5 c
          ∧ r.2.mem ((c.tc : Thread Cert.MainRefIdeal.nD Cert.MainRefIdeal.τ).loc Cert.MainRefIdeal.main_v8_6) = v6 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1)
          ∧ r.2.mem ((c.tc : Thread Cert.MainRefIdeal.nD Cert.MainRefIdeal.τ).loc Cert.MainRefIdeal.main_arg2) = m' ((c.tc : Thread Cert.MainRefIdeal.nD Cert.MainRefIdeal.τ).loc Cert.MainRefIdeal.main_arg2)
          ∧ r.2.mem ((c.tc : Thread Cert.MainRefIdeal.nD Cert.MainRefIdeal.τ).loc Cert.MainRefIdeal.main_arg3) = m' ((c.tc : Thread Cert.MainRefIdeal.nD Cert.MainRefIdeal.τ).loc Cert.MainRefIdeal.main_arg3)
          ∧ r.2.mem ((c.tc : Thread Cert.MainRefIdeal.nD Cert.MainRefIdeal.τ).loc Cert.MainRefIdeal.main_arg4) = m' ((c.tc : Thread Cert.MainRefIdeal.nD Cert.MainRefIdeal.τ).loc Cert.MainRefIdeal.main_arg4)
          ∧ r.2.mem ((c.tc : Thread Cert.MainRefIdeal.nD Cert.MainRefIdeal.τ).loc Cert.MainRefIdeal.main_arg5) = m' ((c.tc : Thread Cert.MainRefIdeal.nD Cert.MainRefIdeal.τ).loc Cert.MainRefIdeal.main_arg5)
          ∧ r.2.mem ((c.tc : Thread Cert.MainRefIdeal.nD Cert.MainRefIdeal.τ).loc Cert.MainRefIdeal.main_arg6) = m' ((c.tc : Thread Cert.MainRefIdeal.nD Cert.MainRefIdeal.τ).loc Cert.MainRefIdeal.main_arg6)
          ∧ r.2.mem ((c.tc : Thread Cert.MainRefIdeal.nD Cert.MainRefIdeal.τ).loc Cert.MainRefIdeal.main_arg7) = m' ((c.tc : Thread Cert.MainRefIdeal.nD Cert.MainRefIdeal.τ).loc Cert.MainRefIdeal.main_arg7))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)) →
    ∃ (v0 : (c : Dev Cert.DwIdeal.nD) → Buf (Elt Ideal) ((c.tc : Thread Cert.DwIdeal.nD Cert.DwIdeal.τ).loc Cert.DwIdeal.main_v0_0)) (v1 : (c : Dev Cert.DwIdeal.nD) → Buf (Elt Ideal) ((c.tc : Thread Cert.DwIdeal.nD Cert.DwIdeal.τ).loc Cert.DwIdeal.main_v0_1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0_0) = v0 c
          ∧ r.2.mem ((c.tc : Thread Cert.DwIdeal.nD Cert.DwIdeal.τ).loc Cert.DwIdeal.main_v0_1) = v1 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v0_0) = v0 c
          ∧ r.2.mem ((c.tc : Thread Cert.DwRefIdeal.nD Cert.DwRefIdeal.τ).loc Cert.DwRefIdeal.main_v0_1) = v1 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3))

def Claim : Prop :=
  ∃ (hMain : Cert.Main.Facts) (hMainIdeal : Cert.MainIdeal.Facts) (hMainRefIdeal : Cert.MainRefIdeal.Facts) (hDw : Cert.Dw.Facts) (hDwIdeal : Cert.DwIdeal.Facts) (hDwRefIdeal : Cert.DwRefIdeal.Facts),
    quiescent_Main (hMain := hMain)
    ∧ quiescent_MainIdeal (hMainIdeal := hMainIdeal)
    ∧ quiescent_MainRefIdeal (hMainRefIdeal := hMainRefIdeal)
    ∧ quiescent_Dw (hDw := hDw)
    ∧ quiescent_DwIdeal (hDwIdeal := hDwIdeal)
    ∧ quiescent_DwRefIdeal (hDwRefIdeal := hDwRefIdeal)
    ∧ preserves_Main_MainIdeal
    ∧ algebraic_MainIdeal_MainRefIdeal (hMainIdeal := hMainIdeal) (hMainRefIdeal := hMainRefIdeal)
    ∧ preserves_Dw_DwIdeal
    ∧ algebraic_DwIdeal_DwRefIdeal (hDwIdeal := hDwIdeal) (hDwRefIdeal := hDwRefIdeal)
-- ==== Main.lean ====
abbrev S6x256x4096 : Shape := ⟨3, ![6, 256, 4096]⟩
abbrev S4096x3x8x128 : Shape := ⟨4, ![4096, 3, 8, 128]⟩
abbrev S8x128x4096 : Shape := ⟨3, ![8, 128, 4096]⟩
abbrev S4096 : Shape := ⟨1, ![4096]⟩
abbrev S6x256x64 : Shape := ⟨3, ![6, 256, 64]⟩
abbrev S4096x3072 : Shape := ⟨2, ![4096, 3072]⟩
abbrev S1024x4096 : Shape := ⟨2, ![1024, 4096]⟩
abbrev S6x64x256 : Shape := ⟨3, ![6, 64, 256]⟩
abbrev S1x4096 : Shape := ⟨2, ![1, 4096]⟩
abbrev S6x8x256 : Shape := ⟨3, ![6, 8, 256]⟩
abbrev S6x256x1024 : Shape := ⟨3, ![6, 256, 1024]⟩
abbrev S6x256x3072 : Shape := ⟨3, ![6, 256, 3072]⟩
abbrev S1x256x4096 : Shape := ⟨3, ![1, 256, 4096]⟩
abbrev S1x64x256 : Shape := ⟨3, ![1, 64, 256]⟩
abbrev S1x8x256 : Shape := ⟨3, ![1, 8, 256]⟩
abbrev S1x256x1024 : Shape := ⟨3, ![1, 256, 1024]⟩
abbrev S1x256x3072 : Shape := ⟨3, ![1, 256, 3072]⟩
abbrev S256x4096 : Shape := ⟨2, ![256, 4096]⟩
abbrev S8x256x256 : Shape := ⟨3, ![8, 256, 256]⟩
abbrev S256x1024 : Shape := ⟨2, ![256, 1024]⟩
abbrev S8x4096 : Shape := ⟨2, ![8, 4096]⟩
abbrev S1x256x512 : Shape := ⟨3, ![1, 256, 512]⟩
abbrev S256x512 : Shape := ⟨2, ![256, 512]⟩
abbrev S64x256 : Shape := ⟨2, ![64, 256]⟩
abbrev S128x256 : Shape := ⟨2, ![128, 256]⟩
abbrev S256x128 : Shape := ⟨2, ![256, 128]⟩
abbrev S4096x512 : Shape := ⟨2, ![4096, 512]⟩
abbrev S1x256x128 : Shape := ⟨3, ![1, 256, 128]⟩
abbrev S128x128 : Shape := ⟨2, ![128, 128]⟩
abbrev S256x256 : Shape := ⟨2, ![256, 256]⟩
abbrev S128 : Shape := ⟨1, ![128]⟩
abbrev S128x1 : Shape := ⟨2, ![128, 1]⟩
abbrev S1x128x128 : Shape := ⟨3, ![1, 128, 128]⟩
abbrev S1x128x256 : Shape := ⟨3, ![1, 128, 256]⟩
abbrev S256x1 : Shape := ⟨2, ![256, 1]⟩
abbrev S8x256 : Shape := ⟨2, ![8, 256]⟩
abbrev S1024x512 : Shape := ⟨2, ![1024, 512]⟩
abbrev S32x4096 : Shape := ⟨2, ![32, 4096]⟩
abbrev S32 : Shape := ⟨1, ![32]⟩
abbrev S32x1 : Shape := ⟨2, ![32, 1]⟩
abbrev S32x128 : Shape := ⟨2, ![32, 128]⟩
abbrev S1x32x128 : Shape := ⟨3, ![1, 32, 128]⟩
abbrev S1x128 : Shape := ⟨2, ![1, 128]⟩
abbrev S8x128 : Shape := ⟨2, ![8, 128]⟩
abbrev S4x8x128 : Shape := ⟨3, ![4, 8, 128]⟩
abbrev S512x4096 : Shape := ⟨2, ![512, 4096]⟩
abbrev S256 : Shape := ⟨1, ![256]⟩
abbrev S256x3072 : Shape := ⟨2, ![256, 3072]⟩
abbrev S512x3072 : Shape := ⟨2, ![512, 3072]⟩

abbrev nBuf : Space → Nat
  | .hbm => 27
  | .vmem => 42
  | .smem => 0
  | _ => 0

abbrev bufTy : (tb : Table) → Fin (tcTables nBuf tb) → BufTy
  | .hbm, ⟨0, _⟩ => ⟨S6x256x4096, .bf16⟩
  | .hbm, ⟨1, _⟩ => ⟨S4096x3x8x128, .fp8e4m3⟩
  | .hbm, ⟨2, _⟩ => ⟨S8x128x4096, .fp8e4m3⟩
  | .hbm, ⟨3, _⟩ => ⟨S4096, .f32⟩
  | .hbm, ⟨4, _⟩ => ⟨S4096, .f32⟩
  | .hbm, ⟨5, _⟩ => ⟨S6x256x64, .f32⟩
  | .hbm, ⟨6, _⟩ => ⟨S6x256x64, .f32⟩
  | .hbm, ⟨7, _⟩ => ⟨S6x256x4096, .bf16⟩
  | .hbm, ⟨8, _⟩ => ⟨S4096x3072, .fp8e4m3⟩
  | .hbm, ⟨9, _⟩ => ⟨S1024x4096, .fp8e4m3⟩
  | .hbm, ⟨10, _⟩ => ⟨S6x64x256, .f32⟩
  | .hbm, ⟨11, _⟩ => ⟨S6x64x256, .f32⟩
  | .hbm, ⟨12, _⟩ => ⟨S1x4096, .f32⟩
  | .hbm, ⟨13, _⟩ => ⟨S1x4096, .f32⟩
  | .hbm, ⟨14, _⟩ => ⟨S6x256x4096, .bf16⟩
  | .hbm, ⟨15, _⟩ => ⟨S6x256x4096, .bf16⟩
  | .hbm, ⟨16, _⟩ => ⟨S6x8x256, .f32⟩
  | .hbm, ⟨17, _⟩ => ⟨S6x8x256, .f32⟩
  | .hbm, ⟨18, _⟩ => ⟨S6x256x1024, .bf16⟩
  | .hbm, ⟨19, _⟩ => ⟨S6x256x3072, .bf16⟩
  | .hbm, ⟨20, _⟩ => ⟨S6x256x1024, .bf16⟩
  | .hbm, ⟨21, _⟩ => ⟨S6x256x4096, .fp8e4m3⟩
  | .hbm, ⟨22, _⟩ => ⟨S6x256x1024, .fp8e4m3⟩
  | .hbm, ⟨23, _⟩ => ⟨S6x256x4096, .fp8e5m2⟩
  | .hbm, ⟨24, _⟩ => ⟨S6x256x3072, .fp8e5m2⟩
  | .hbm, ⟨25, _⟩ => ⟨S1x4096, .f32⟩
  | .hbm, ⟨26, _⟩ => ⟨S1x4096, .f32⟩
  | .local _ .vmem, ⟨0, _⟩ => ⟨S1x256x4096, .bf16⟩
  | .local _ .vmem, ⟨1, _⟩ => ⟨S1x256x4096, .bf16⟩
  | .local _ .vmem, ⟨2, _⟩ => ⟨S4096x3072, .fp8e4m3⟩
  | .local _ .vmem, ⟨3, _⟩ => ⟨S1024x4096, .fp8e4m3⟩
  | .local _ .vmem, ⟨4, _⟩ => ⟨S1x4096, .f32⟩
  | .local _ .vmem, ⟨5, _⟩ => ⟨S1x4096, .f32⟩
  | .local _ .vmem, ⟨6, _⟩ => ⟨S1x64x256, .f32⟩
  | .local _ .vmem, ⟨7, _⟩ => ⟨S1x64x256, .f32⟩
  | .local _ .vmem, ⟨8, _⟩ => ⟨S1x64x256, .f32⟩
  | .local _ .vmem, ⟨9, _⟩ => ⟨S1x64x256, .f32⟩
  | .local _ .vmem, ⟨10, _⟩ => ⟨S1x256x4096, .bf16⟩
  | .local _ .vmem, ⟨11, _⟩ => ⟨S1x256x4096, .bf16⟩
  | .local _ .vmem, ⟨12, _⟩ => ⟨S1x256x4096, .bf16⟩
  | .local _ .vmem, ⟨13, _⟩ => ⟨S1x256x4096, .bf16⟩
  | .local _ .vmem, ⟨14, _⟩ => ⟨S1x256x4096, .bf16⟩
  | .local _ .vmem, ⟨15, _⟩ => ⟨S1x256x4096, .bf16⟩
  | .local _ .vmem, ⟨16, _⟩ => ⟨S1x8x256, .f32⟩
  | .local _ .vmem, ⟨17, _⟩ => ⟨S1x8x256, .f32⟩
  | .local _ .vmem, ⟨18, _⟩ => ⟨S1x8x256, .f32⟩
  | .local _ .vmem, ⟨19, _⟩ => ⟨S1x8x256, .f32⟩
  | .local _ .vmem, ⟨20, _⟩ => ⟨S1x256x1024, .bf16⟩
  | .local _ .vmem, ⟨21, _⟩ => ⟨S1x256x1024, .bf16⟩
  | .local _ .vmem, ⟨22, _⟩ => ⟨S1x256x3072, .bf16⟩
  | .local _ .vmem, ⟨23, _⟩ => ⟨S1x256x3072, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x4096, .fp8e4m3⟩
  | .local _ .vmem, ⟨27, _⟩ => ⟨S1x256x4096, .fp8e4m3⟩
  | .local _ .vmem, ⟨28, _⟩ => ⟨S1x256x1024, .fp8e4m3⟩
  | .local _ .vmem, ⟨29, _⟩ => ⟨S1x256x1024, .fp8e4m3⟩
  | .local _ .vmem, ⟨30, _⟩ => ⟨S1x256x4096, .fp8e5m2⟩
  | .local _ .vmem, ⟨31, _⟩ => ⟨S1x256x4096, .fp8e5m2⟩
  | .local _ .vmem, ⟨32, _⟩ => ⟨S1x256x3072, .fp8e5m2⟩
  | .local _ .vmem, ⟨33, _⟩ => ⟨S1x256x3072, .fp8e5m2⟩
  | .local _ .vmem, ⟨34, _⟩ => ⟨S1x4096, .f32⟩
  | .local _ .vmem, ⟨35, _⟩ => ⟨S1x4096, .f32⟩
  | .local _ .vmem, ⟨36, _⟩ => ⟨S256x4096, .f32⟩
  | .local _ .vmem, ⟨37, _⟩ => ⟨S8x256x256, .f32⟩
  | .local _ .vmem, ⟨38, _⟩ => ⟨S256x1024, .f32⟩
  | .local _ .vmem, ⟨39, _⟩ => ⟨S256x1024, .bf16⟩
  | .local _ .vmem, ⟨40, _⟩ => ⟨S8x4096, .f32⟩
  | .local _ .vmem, ⟨41, _⟩ => ⟨S8x4096, .f32⟩
  | _, _ => ⟨S6x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev main_v6_8 : Ref sig .tc := ⟨.hbm, 22, rfl⟩
abbrev main_v6_9 : Ref sig .tc := ⟨.hbm, 23, rfl⟩
abbrev main_v6_10 : Ref sig .tc := ⟨.hbm, 24, rfl⟩
abbrev main_v6_11 : Ref sig .tc := ⟨.hbm, 25, rfl⟩
abbrev main_v6_12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem20_0 : DmaSem sig := 35

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32_638 : BitVec 32 := 0#32
  let c8_i32 : BitVec 32 := 8#32
  let v1281 : BitVec 32 := Scalar.addi c0_i32_638 c8_i32
  let c1_i32_639 : BitVec 32 := 1#32
  ⟨c0_i32_638, v1281, c1_i32_639⟩
def k0_mult1 (k0_t1 : Fin k0_t1_loop.trips) : BitVec 32 :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  v2137
def k0_off1 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2139 : Index := Scalar.indexCast v2138
  let c0_1161 : Index := 0#32
  ![v2139.toNat, 0]
def k0_off2 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2148 : Index := Scalar.indexCast v2138
  let c0_1167 : Index := 0#32
  ![v2148.toNat, 0]
def k0_off3 (k0_t1 : Fin k0_t1_loop.trips) : Fin 3 → Nat :=
  let c0_1168 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2152 : Index := Scalar.indexCast v2138
  let c0_1169 : Index := 0#32
  ![0, v2152.toNat, 0]
def k0_off4 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2167 : Index := Scalar.indexCast v2138
  let c128_1173 : Index := 128#32
  ![v2167.toNat, 128]
def k0_off5 (k0_t1 : Fin k0_t1_loop.trips) : Fin 3 → Nat :=
  let c0_1174 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2171 : Index := Scalar.indexCast v2138
  let c128_1175 : Index := 128#32
  ![0, v2171.toNat, 128]
def k0_off6 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2186 : Index := Scalar.indexCast v2138
  let c256_1179 : Index := 256#32
  ![v2186.toNat, 256]
def k0_off7 (k0_t1 : Fin k0_t1_loop.trips) : Fin 3 → Nat :=
  let c0_1180 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2190 : Index := Scalar.indexCast v2138
  let c256_1181 : Index := 256#32
  ![0, v2190.toNat, 256]
def k0_off8 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2205 : Index := Scalar.indexCast v2138
  let c384_1185 : Index := 384#32
  ![v2205.toNat, 384]
def k0_off9 (k0_t1 : Fin k0_t1_loop.trips) : Fin 3 → Nat :=
  let c0_1186 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2209 : Index := Scalar.indexCast v2138
  let c384_1187 : Index := 384#32
  ![0, v2209.toNat, 384]
def k0_off10 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2224 : Index := Scalar.indexCast v2138
  let c512_1191 : Index := 512#32
  ![v2224.toNat, 512]
def k0_off11 (k0_t1 : Fin k0_t1_loop.trips) : Fin 3 → Nat :=
  let c0_1192 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2228 : Index := Scalar.indexCast v2138
  let c512_1193 : Index := 512#32
  ![0, v2228.toNat, 512]
def k0_off12 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2243 : Index := Scalar.indexCast v2138
  let c640_1197 : Index := 640#32
  ![v2243.toNat, 640]
def k0_off13 (k0_t1 : Fin k0_t1_loop.trips) : Fin 3 → Nat :=
  let c0_1198 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2247 : Index := Scalar.indexCast v2138
  let c640_1199 : Index := 640#32
  ![0, v2247.toNat, 640]
def k0_off14 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2262 : Index := Scalar.indexCast v2138
  let c768_1203 : Index := 768#32
  ![v2262.toNat, 768]
def k0_off15 (k0_t1 : Fin k0_t1_loop.trips) : Fin 3 → Nat :=
  let c0_1204 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2266 : Index := Scalar.indexCast v2138
  let c768_1205 : Index := 768#32
  ![0, v2266.toNat, 768]
def k0_off16 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2281 : Index := Scalar.indexCast v2138
  let c896_1209 : Index := 896#32
  ![v2281.toNat, 896]
def k0_off17 (k0_t1 : Fin k0_t1_loop.trips) : Fin 3 → Nat :=
  let c0_1210 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2285 : Index := Scalar.indexCast v2138
  let c896_1211 : Index := 896#32
  ![0, v2285.toNat, 896]
def k0_off18 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2300 : Index := Scalar.indexCast v2138
  let c1024_1215 : Index := 1024#32
  ![v2300.toNat, 1024]
def k0_off19 (k0_t1 : Fin k0_t1_loop.trips) : Fin 3 → Nat :=
  let c0_1216 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2304 : Index := Scalar.indexCast v2138
  let c1024_1217 : Index := 1024#32
  ![0, v2304.toNat, 1024]
def k0_off20 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2319 : Index := Scalar.indexCast v2138
  let c1152_1221 : Index := 1152#32
  ![v2319.toNat, 1152]
def k0_off21 (k0_t1 : Fin k0_t1_loop.trips) : Fin 3 → Nat :=
  let c0_1222 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2323 : Index := Scalar.indexCast v2138
  let c1152_1223 : Index := 1152#32
  ![0, v2323.toNat, 1152]
def k0_off22 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2338 : Index := Scalar.indexCast v2138
  let c1280_1227 : Index := 1280#32
  ![v2338.toNat, 1280]
def k0_off23 (k0_t1 : Fin k0_t1_loop.trips) : Fin 3 → Nat :=
  let c0_1228 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2342 : Index := Scalar.indexCast v2138
  let c1280_1229 : Index := 1280#32
  ![0, v2342.toNat, 1280]
def k0_off24 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2357 : Index := Scalar.indexCast v2138
  let c1408_1233 : Index := 1408#32
  ![v2357.toNat, 1408]
def k0_off25 (k0_t1 : Fin k0_t1_loop.trips) : Fin 3 → Nat :=
  let c0_1234 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2361 : Index := Scalar.indexCast v2138
  let c1408_1235 : Index := 1408#32
  ![0, v2361.toNat, 1408]
def k0_off26 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2376 : Index := Scalar.indexCast v2138
  let c1536_1239 : Index := 1536#32
  ![v2376.toNat, 1536]
def k0_off27 (k0_t1 : Fin k0_t1_loop.trips) : Fin 3 → Nat :=
  let c0_1240 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2380 : Index := Scalar.indexCast v2138
  let c1536_1241 : Index := 1536#32
  ![0, v2380.toNat, 1536]
def k0_off28 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2395 : Index := Scalar.indexCast v2138
  let c1664_1245 : Index := 1664#32
  ![v2395.toNat, 1664]
def k0_off29 (k0_t1 : Fin k0_t1_loop.trips) : Fin 3 → Nat :=
  let c0_1246 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2399 : Index := Scalar.indexCast v2138
  let c1664_1247 : Index := 1664#32
  ![0, v2399.toNat, 1664]
def k0_off30 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2414 : Index := Scalar.indexCast v2138
  let c1792_1251 : Index := 1792#32
  ![v2414.toNat, 1792]
def k0_off31 (k0_t1 : Fin k0_t1_loop.trips) : Fin 3 → Nat :=
  let c0_1252 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2418 : Index := Scalar.indexCast v2138
  let c1792_1253 : Index := 1792#32
  ![0, v2418.toNat, 1792]
def k0_off32 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2433 : Index := Scalar.indexCast v2138
  let c1920_1257 : Index := 1920#32
  ![v2433.toNat, 1920]
def k0_off33 (k0_t1 : Fin k0_t1_loop.trips) : Fin 3 → Nat :=
  let c0_1258 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2437 : Index := Scalar.indexCast v2138
  let c1920_1259 : Index := 1920#32
  ![0, v2437.toNat, 1920]
def k0_off34 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2452 : Index := Scalar.indexCast v2138
  let c2048_1263 : Index := 2048#32
  ![v2452.toNat, 2048]
def k0_off35 (k0_t1 : Fin k0_t1_loop.trips) : Fin 3 → Nat :=
  let c0_1264 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2456 : Index := Scalar.indexCast v2138
  let c2048_1265 : Index := 2048#32
  ![0, v2456.toNat, 2048]
def k0_off36 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2471 : Index := Scalar.indexCast v2138
  let c2176_1269 : Index := 2176#32
  ![v2471.toNat, 2176]
def k0_off37 (k0_t1 : Fin k0_t1_loop.trips) : Fin 3 → Nat :=
  let c0_1270 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2475 : Index := Scalar.indexCast v2138
  let c2176_1271 : Index := 2176#32
  ![0, v2475.toNat, 2176]
def k0_off38 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2490 : Index := Scalar.indexCast v2138
  let c2304_1275 : Index := 2304#32
  ![v2490.toNat, 2304]
def k0_off39 (k0_t1 : Fin k0_t1_loop.trips) : Fin 3 → Nat :=
  let c0_1276 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2494 : Index := Scalar.indexCast v2138
  let c2304_1277 : Index := 2304#32
  ![0, v2494.toNat, 2304]
def k0_off40 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2509 : Index := Scalar.indexCast v2138
  let c2432_1281 : Index := 2432#32
  ![v2509.toNat, 2432]
def k0_off41 (k0_t1 : Fin k0_t1_loop.trips) : Fin 3 → Nat :=
  let c0_1282 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2513 : Index := Scalar.indexCast v2138
  let c2432_1283 : Index := 2432#32
  ![0, v2513.toNat, 2432]
def k0_off42 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2528 : Index := Scalar.indexCast v2138
  let c2560_1287 : Index := 2560#32
  ![v2528.toNat, 2560]
def k0_off43 (k0_t1 : Fin k0_t1_loop.trips) : Fin 3 → Nat :=
  let c0_1288 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2532 : Index := Scalar.indexCast v2138
  let c2560_1289 : Index := 2560#32
  ![0, v2532.toNat, 2560]
def k0_off44 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2547 : Index := Scalar.indexCast v2138
  let c2688_1293 : Index := 2688#32
  ![v2547.toNat, 2688]
def k0_off45 (k0_t1 : Fin k0_t1_loop.trips) : Fin 3 → Nat :=
  let c0_1294 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2551 : Index := Scalar.indexCast v2138
  let c2688_1295 : Index := 2688#32
  ![0, v2551.toNat, 2688]
def k0_off46 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2566 : Index := Scalar.indexCast v2138
  let c2816_1299 : Index := 2816#32
  ![v2566.toNat, 2816]
def k0_off47 (k0_t1 : Fin k0_t1_loop.trips) : Fin 3 → Nat :=
  let c0_1300 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2570 : Index := Scalar.indexCast v2138
  let c2816_1301 : Index := 2816#32
  ![0, v2570.toNat, 2816]
def k0_off48 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2585 : Index := Scalar.indexCast v2138
  let c2944_1305 : Index := 2944#32
  ![v2585.toNat, 2944]
def k0_off49 (k0_t1 : Fin k0_t1_loop.trips) : Fin 3 → Nat :=
  let c0_1306 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2589 : Index := Scalar.indexCast v2138
  let c2944_1307 : Index := 2944#32
  ![0, v2589.toNat, 2944]
def k0_off50 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2604 : Index := Scalar.indexCast v2138
  let c3072_1311 : Index := 3072#32
  ![v2604.toNat, 3072]
def k0_off51 (k0_t1 : Fin k0_t1_loop.trips) : Fin 3 → Nat :=
  let c0_1312 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2608 : Index := Scalar.indexCast v2138
  let c3072_1313 : Index := 3072#32
  ![0, v2608.toNat, 3072]
def k0_off52 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2623 : Index := Scalar.indexCast v2138
  let c3200 : Index := 3200#32
  ![v2623.toNat, 3200]
def k0_off53 (k0_t1 : Fin k0_t1_loop.trips) : Fin 3 → Nat :=
  let c0_1317 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2627 : Index := Scalar.indexCast v2138
  let c3200_1318 : Index := 3200#32
  ![0, v2627.toNat, 3200]
def k0_off54 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2642 : Index := Scalar.indexCast v2138
  let c3328 : Index := 3328#32
  ![v2642.toNat, 3328]
def k0_off55 (k0_t1 : Fin k0_t1_loop.trips) : Fin 3 → Nat :=
  let c0_1322 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2646 : Index := Scalar.indexCast v2138
  let c3328_1323 : Index := 3328#32
  ![0, v2646.toNat, 3328]
def k0_off56 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2661 : Index := Scalar.indexCast v2138
  let c3456 : Index := 3456#32
  ![v2661.toNat, 3456]
def k0_off57 (k0_t1 : Fin k0_t1_loop.trips) : Fin 3 → Nat :=
  let c0_1327 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2665 : Index := Scalar.indexCast v2138
  let c3456_1328 : Index := 3456#32
  ![0, v2665.toNat, 3456]
def k0_off58 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2680 : Index := Scalar.indexCast v2138
  let c3584_1332 : Index := 3584#32
  ![v2680.toNat, 3584]
def k0_off59 (k0_t1 : Fin k0_t1_loop.trips) : Fin 3 → Nat :=
  let c0_1333 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2684 : Index := Scalar.indexCast v2138
  let c3584_1334 : Index := 3584#32
  ![0, v2684.toNat, 3584]
def k0_off60 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2699 : Index := Scalar.indexCast v2138
  let c3712 : Index := 3712#32
  ![v2699.toNat, 3712]
def k0_off61 (k0_t1 : Fin k0_t1_loop.trips) : Fin 3 → Nat :=
  let c0_1338 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2703 : Index := Scalar.indexCast v2138
  let c3712_1339 : Index := 3712#32
  ![0, v2703.toNat, 3712]
def k0_off62 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2718 : Index := Scalar.indexCast v2138
  let c3840 : Index := 3840#32
  ![v2718.toNat, 3840]
def k0_off63 (k0_t1 : Fin k0_t1_loop.trips) : Fin 3 → Nat :=
  let c0_1343 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2722 : Index := Scalar.indexCast v2138
  let c3840_1344 : Index := 3840#32
  ![0, v2722.toNat, 3840]
def k0_off64 (k0_t1 : Fin k0_t1_loop.trips) : Fin 2 → Nat :=
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2737 : Index := Scalar.indexCast v2138
  let c3968 : Index := 3968#32
  ![v2737.toNat, 3968]
def k0_off65 (k0_t1 : Fin k0_t1_loop.trips) : Fin 3 → Nat :=
  let c0_1348 : Index := 0#32
  let c0_i32_638 : BitVec 32 := 0#32
  let c1_i32_639 : BitVec 32 := 1#32
  let arg28 : BitVec 32 := Scf.iv c0_i32_638 c1_i32_639 k0_t1
  let c32_i32 : BitVec 32 := 32#32
  let v2137 : BitVec 32 := Scalar.muli arg28 c32_i32
  let v2138 : BitVec 32 := v2137
  let v2741 : Index := Scalar.indexCast v2138
  let c3968_1349 : Index := 3968#32
  ![0, v2741.toNat, 3968]
def k0_cond2 (i : grid0.Coords) : BitVec 1 :=
  let arg0 : BitVec 32 := BitVec.ofNat 32 (i 0).val
  let c5_i32_1159 : BitVec 32 := 5#32
  let v2134 : BitVec 1 := Scalar.cmpi .eq arg0 c5_i32_1159
  let v2135 : BitVec 32 := Scalar.extui v2134
  let c0_i32_1160 : BitVec 32 := 0#32
  let v2136 : BitVec 1 := Scalar.cmpi .ne v2135 c0_i32_1160
  v2136

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x4096 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x1024 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x4096 .fp8e5m2 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256x3072 .fp8e5m2 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x4096 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MainRefIdeal.lean ====
abbrev S6x256x4096 : Shape := ⟨3, ![6, 256, 4096]⟩
abbrev S4096x3x8x128 : Shape := ⟨4, ![4096, 3, 8, 128]⟩
abbrev S8x128x4096 : Shape := ⟨3, ![8, 128, 4096]⟩
abbrev S4096 : Shape := ⟨1, ![4096]⟩
abbrev S6x256x64 : Shape := ⟨3, ![6, 256, 64]⟩
abbrev S1536x4096 : Shape := ⟨2, ![1536, 4096]⟩
abbrev S4096x3072 : Shape := ⟨2, ![4096, 3072]⟩
abbrev S1024x4096 : Shape := ⟨2, ![1024, 4096]⟩
abbrev S1x4096 : Shape := ⟨2, ![1, 4096]⟩
abbrev S1536x64 : Shape := ⟨2, ![1536, 64]⟩
abbrev S6x8x256 : Shape := ⟨3, ![6, 8, 256]⟩
abbrev S6x256x1024 : Shape := ⟨3, ![6, 256, 1024]⟩
abbrev S6x256x3072 : Shape := ⟨3, ![6, 256, 3072]⟩
abbrev S1536x3072 : Shape := ⟨2, ![1536, 3072]⟩
abbrev S1536x24x128 : Shape := ⟨3, ![1536, 24, 128]⟩
abbrev S1536x1x64 : Shape := ⟨3, ![1536, 1, 64]⟩
abbrev S1536x16x128 : Shape := ⟨3, ![1536, 16, 128]⟩
abbrev S1536x16x64 : Shape := ⟨3, ![1536, 16, 64]⟩
abbrev S1536x8x128 : Shape := ⟨3, ![1536, 8, 128]⟩
abbrev S6x256x8x128 : Shape := ⟨4, ![6, 256, 8, 128]⟩
abbrev S6x8x256x128 : Shape := ⟨4, ![6, 8, 256, 128]⟩
abbrev S48x256x128 : Shape := ⟨3, ![48, 256, 128]⟩
abbrev S48x256x256 : Shape := ⟨3, ![48, 256, 256]⟩
abbrev S48x256 : Shape := ⟨2, ![48, 256]⟩
abbrev S48x256x1 : Shape := ⟨3, ![48, 256, 1]⟩
abbrev S1536x1024 : Shape := ⟨2, ![1536, 1024]⟩
abbrev S1536 : Shape := ⟨1, ![1536]⟩
abbrev S1536x1 : Shape := ⟨2, ![1536, 1]⟩

abbrev nBuf : Space → Nat
  | .hbm => 23
  | .vmem => 15
  | .smem => 0
  | _ => 0

abbrev bufTy : (tb : Table) → Fin (tcTables nBuf tb) → BufTy
  | .hbm, ⟨0, _⟩ => ⟨S6x256x4096, .bf16⟩
  | .hbm, ⟨1, _⟩ => ⟨S4096x3x8x128, .fp8e4m3⟩
  | .hbm, ⟨2, _⟩ => ⟨S8x128x4096, .fp8e4m3⟩
  | .hbm, ⟨3, _⟩ => ⟨S4096, .f32⟩
  | .hbm, ⟨4, _⟩ => ⟨S4096, .f32⟩
  | .hbm, ⟨5, _⟩ => ⟨S6x256x64, .f32⟩
  | .hbm, ⟨6, _⟩ => ⟨S6x256x64, .f32⟩
  | .hbm, ⟨7, _⟩ => ⟨S6x256x4096, .bf16⟩
  | .hbm, ⟨8, _⟩ => ⟨S1536x4096, .bf16⟩
  | .hbm, ⟨9, _⟩ => ⟨S4096x3072, .fp8e4m3⟩
  | .hbm, ⟨10, _⟩ => ⟨S1024x4096, .fp8e4m3⟩
  | .hbm, ⟨11, _⟩ => ⟨S1x4096, .f32⟩
  | .hbm, ⟨12, _⟩ => ⟨S1x4096, .f32⟩
  | .hbm, ⟨13, _⟩ => ⟨S1536x64, .f32⟩
  | .hbm, ⟨14, _⟩ => ⟨S1536x64, .f32⟩
  | .hbm, ⟨15, _⟩ => ⟨S1536x4096, .bf16⟩
  | .hbm, ⟨16, _⟩ => ⟨S6x256x4096, .bf16⟩
  | .hbm, ⟨17, _⟩ => ⟨S6x8x256, .f32⟩
  | .hbm, ⟨18, _⟩ => ⟨S6x256x1024, .bf16⟩
  | .hbm, ⟨19, _⟩ => ⟨S6x256x3072, .bf16⟩
  | .hbm, ⟨20, _⟩ => ⟨S6x256x4096, .fp8e4m3⟩
  | .hbm, ⟨21, _⟩ => ⟨S6x256x1024, .fp8e4m3⟩
  | .hbm, ⟨22, _⟩ => ⟨S6x256x4096, .fp8e5m2⟩
  | .local _ .vmem, ⟨0, _⟩ => ⟨S1536x4096, .bf16⟩
  | .local _ .vmem, ⟨1, _⟩ => ⟨S4096x3072, .fp8e4m3⟩
  | .local _ .vmem, ⟨2, _⟩ => ⟨S1024x4096, .fp8e4m3⟩
  | .local _ .vmem, ⟨3, _⟩ => ⟨S1x4096, .f32⟩
  | .local _ .vmem, ⟨4, _⟩ => ⟨S1x4096, .f32⟩
  | .local _ .vmem, ⟨5, _⟩ => ⟨S1536x64, .f32⟩
  | .local _ .vmem, ⟨6, _⟩ => ⟨S1536x64, .f32⟩
  | .local _ .vmem, ⟨7, _⟩ => ⟨S1536x4096, .bf16⟩
  | .local _ .vmem, ⟨8, _⟩ => ⟨S6x256x4096, .bf16⟩
  | .local _ .vmem, ⟨9, _⟩ => ⟨S6x8x256, .f32⟩
  | .local _ .vmem, ⟨10, _⟩ => ⟨S6x256x1024, .bf16⟩
  | .local _ .vmem, ⟨11, _⟩ => ⟨S6x256x3072, .bf16⟩
  | .local _ .vmem, ⟨12, _⟩ => ⟨S6x256x4096, .fp8e4m3⟩
  | .local _ .vmem, ⟨13, _⟩ => ⟨S6x256x1024, .fp8e4m3⟩
  | .local _ .vmem, ⟨14, _⟩ => ⟨S6x256x4096, .fp8e5m2⟩
  | _, _ => ⟨S6x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x256x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x256x4096 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x256x1024 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x256x4096 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Dw.lean ====
abbrev S1536x4096 : Shape := ⟨2, ![1536, 4096]⟩
abbrev S1536x3072 : Shape := ⟨2, ![1536, 3072]⟩
abbrev S1536x1024 : Shape := ⟨2, ![1536, 1024]⟩
abbrev S4096x3072 : Shape := ⟨2, ![4096, 3072]⟩
abbrev S1024x4096 : Shape := ⟨2, ![1024, 4096]⟩
abbrev S1536x512 : Shape := ⟨2, ![1536, 512]⟩
abbrev S512x3072 : Shape := ⟨2, ![512, 3072]⟩
abbrev S1024x512 : Shape := ⟨2, ![1024, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S1536x4096, .fp8e4m3⟩
  | .hbm, ⟨1, _⟩ => ⟨S1536x3072, .fp8e5m2⟩
  | .hbm, ⟨2, _⟩ => ⟨S1536x1024, .fp8e4m3⟩
  | .hbm, ⟨3, _⟩ => ⟨S1536x4096, .fp8e5m2⟩
  | .hbm, ⟨4, _⟩ => ⟨S4096x3072, .bf16⟩
  | .hbm, ⟨5, _⟩ => ⟨S1024x4096, .bf16⟩
  | .local _ .vmem, ⟨0, _⟩ => ⟨S1536x512, .fp8e4m3⟩
  | .local _ .vmem, ⟨1, _⟩ => ⟨S1536x512, .fp8e4m3⟩
  | .local _ .vmem, ⟨2, _⟩ => ⟨S1536x3072, .fp8e5m2⟩
  | .local _ .vmem, ⟨3, _⟩ => ⟨S1536x1024, .fp8e4m3⟩
  | .local _ .vmem, ⟨4, _⟩ => ⟨S1536x512, .fp8e5m2⟩
  | .local _ .vmem, ⟨5, _⟩ => ⟨S1536x512, .fp8e5m2⟩
  | .local _ .vmem, ⟨6, _⟩ => ⟨S512x3072, .bf16⟩
  | .local _ .vmem, ⟨7, _⟩ => ⟨S512x3072, .bf16⟩
  | .local _ .vmem, ⟨8, _⟩ => ⟨S1024x512, .bf16⟩
  | .local _ .vmem, ⟨9, _⟩ => ⟨S1024x512, .bf16⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1536x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x3072 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x512 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DwRefIdeal.lean ====
abbrev S1536x4096 : Shape := ⟨2, ![1536, 4096]⟩
abbrev S1536x3072 : Shape := ⟨2, ![1536, 3072]⟩
abbrev S1536x1024 : Shape := ⟨2, ![1536, 1024]⟩
abbrev S4096x3072 : Shape := ⟨2, ![4096, 3072]⟩
abbrev S1024x4096 : Shape := ⟨2, ![1024, 4096]⟩

abbrev nBuf : Space → Nat
  | .hbm => 6
  | .vmem => 6
  | .smem => 0
  | _ => 0

abbrev bufTy : (tb : Table) → Fin (tcTables nBuf tb) → BufTy
  | .hbm, ⟨0, _⟩ => ⟨S1536x4096, .fp8e4m3⟩
  | .hbm, ⟨1, _⟩ => ⟨S1536x3072, .fp8e5m2⟩
  | .hbm, ⟨2, _⟩ => ⟨S1536x1024, .fp8e4m3⟩
  | .hbm, ⟨3, _⟩ => ⟨S1536x4096, .fp8e5m2⟩
  | .hbm, ⟨4, _⟩ => ⟨S4096x3072, .bf16⟩
  | .hbm, ⟨5, _⟩ => ⟨S1024x4096, .bf16⟩
  | .local _ .vmem, ⟨0, _⟩ => ⟨S1536x4096, .fp8e4m3⟩
  | .local _ .vmem, ⟨1, _⟩ => ⟨S1536x3072, .fp8e5m2⟩
  | .local _ .vmem, ⟨2, _⟩ => ⟨S1536x1024, .fp8e4m3⟩
  | .local _ .vmem, ⟨3, _⟩ => ⟨S1536x4096, .fp8e5m2⟩
  | .local _ .vmem, ⟨4, _⟩ => ⟨S4096x3072, .bf16⟩
  | .local _ .vmem, ⟨5, _⟩ => ⟨S1024x4096, .bf16⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x3072 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x4096 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.DwValue.lean ====
/- The weight-gradient call, read: each of its two result arrays is one scaled product over all the tokens.

   The call runs over eight column blocks of 512; at a block it stores `dw_qkv`'s 512 rows as six products of 512 columns
   and `dw_o`'s 512 columns as one product. Each stored element is the same sum over the 1536 tokens, so the eight blocks
   put together are the two products taken whole. -/
module

public import proofs.«01_k».proof.Proof.Gen.DwIdeal.Frame
public import proofs.«01_k».proof.Proof.Gen.DwRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DwIdeal.Value

open Cert.DwIdeal Cert.DwIdeal.Gen

variable (m : (ℓ : Loc nD τ sig) → Buf (Elt Ideal) ℓ)

/-- Every window's block index at a grid point. -/
theorem idx : ∀ t : Fin cfg0.N, win0_0.index t = ![0, t.val] ∧ win0_1.index t = ![0, 0] ∧ win0_2.index t = ![0, 0]
    ∧ win0_3.index t = ![0, t.val] ∧ win0_4.index t = ![t.val, 0] ∧ win0_5.index t = ![0, t.val] :=
  (by decide +kernel : ∀ t : Fin grid0.N, _)

/-- `dw_qkv`: what point `t` stores at an index of its block is the whole product at the index's place in the array. -/
theorem point4 (c : Dev nD) (t : Fin cfg0.N) (y : S512x3072.Idx) :
    out0_4 (F := Ideal) (iblk m c 0 t) (iblk m c 1 t) (iblk m c 2 t) (iblk m c 3 t) y
      = Cert.DwRefIdeal.Gen.k0_pay1 (F := Ideal) (m ((c : Thread nD τ).loc main_arg0)) (m ((c : Thread nD τ).loc main_arg1))
          (((cfg0.win 4).blk t).view.emb y) := by
  canon_tiles x h using cover0_4 ..
  all_goals
    pointwise [Cert.DwRefIdeal.Gen.k0_pay1, k0_pay1, k0_pay2, k0_pay3, k0_pay5, k0_pay6, k0_pay7, k0_pay8]
    blk_point [iblk, V, idx t]

/-- `dw_o`, likewise. -/
theorem point5 (c : Dev nD) (t : Fin cfg0.N) (y : S1024x512.Idx) :
    out0_5 (F := Ideal) (iblk m c 0 t) (iblk m c 1 t) (iblk m c 2 t) (iblk m c 3 t) y
      = Cert.DwRefIdeal.Gen.k0_pay2 (F := Ideal) (m ((c : Thread nD τ).loc main_arg2)) (m ((c : Thread nD τ).loc main_arg3))
          (((cfg0.win 5).blk t).view.emb y) := by
  canon_tiles x h using cover0_5 ..
  all_goals
    pointwise [Cert.DwRefIdeal.Gen.k0_pay2, k0_pay4]
    blk_point [iblk, V, idx t]

/-- `dw_qkv` after the run is the reference's product of the argument arrays. -/
theorem final4' (c : Dev nD) : (dats m 0 c).arrAt 4 (cfgs 0).N
    = Cert.DwRefIdeal.Gen.k0_pay1 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  exact point4 m c t y

/-- `dw_o` after the run is the reference's product of the argument arrays. -/
theorem final5' (c : Dev nD) : (dats m 0 c).arrAt 5 (cfgs 0).N
    = Cert.DwRefIdeal.Gen.k0_pay2 (F := Ideal) (m ((c : Thread nD τ).loc main_arg2)) (m ((c : Thread nD τ).loc main_arg3)) := by
  refine (dats m 0 c).arrAt_eq_of_covers 5 _ (by decide +kernel) fun t _ y => ?_
  blk_simp
  rw [after0_5]
  exact point5 m c t y

end Cert.DwIdeal.Value

end
-- ==== Proof.Segs.lean ====
/- The main call's body cut at its own seams: seven stretches, each a stretch of the printed body's statements, and the
   normalisation loop between the fourth and the fifth. A stretch takes what the later statements need of it as a continuation. -/
module

public import proofs.«01_k».proof.Proof.Gen.MainIdeal.Skeleton

@[expose] public section

set_option maxRecDepth 65536

open Idealize.ShloMosaic Idealize.ShloMosaic.TcCoe Idealize.SL.Sem

namespace Cert.MainIdeal.Gen

variable {F : FTy → Type} [FloatOps F]

/-- The codes of the input. -/
noncomputable def segA (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole)  (kk : BitVec 32 → FVec F S64x256 .f32 → Prog (TpuEff nD τ sig (Elt F) Λ₀ .tc) PUnit) :
    Prog (TpuEff nD τ sig (Elt F) Λ₀ .tc) PUnit := do
  let ⟨arg0, v31, v32⟩ : Σ' (arg0 : BitVec 32) (v31 : FVec F S256x512 .bf16), F .bf16 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  let ⟨v64, cst_38, v65⟩ : Σ' (v64 : FVec F S256x512 .bf16) (cst_38 : F .f32), F .bf16 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v31 v32
  let v100 : FVec F S64x256 .f32 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v64 cst_38 v65
  kk arg0 v100

/-- The projections, rotated. -/
noncomputable def segB (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole) (v100 : FVec F S64x256 .f32) (kk : FVec F S256x128 .f32 → FVec F S256x128 .f32 → Prog (TpuEff nD τ sig (Elt F) Λ₀ .tc) PUnit) :
    Prog (TpuEff nD τ sig (Elt F) Λ₀ .tc) PUnit := do
  let ⟨v104, v108, v115, v138⟩ : Σ' (v104 : FVec F S256x128 .f32) (v108 : FVec F S256x128 .f32) (v115 : FVec F S256x512 .f32), FVec F S256x128 .f32 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v100
  let ⟨v158, v173⟩ : Σ' (v158 : FVec F S256x512 .f32), FVec F S256x128 .bf16 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v115 v138
  let v201 : FVec F S256x512 .f32 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v158 v173
  let ⟨v244, v246, v247⟩ : Σ' (v244 : FVec F S256x512 .f32) (v246 : FVec F S256x128 .f32), FVec F S256x128 .f32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v201
  let ⟨v282, v283⟩ : Σ' (v282 : FVec F S256x4096 .fp8e4m3), Vec F S4096x512 .fp8e4m3 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v244 v246 v247
  let ⟨v314, v316⟩ : Σ' (v314 : FVec F S256x512 .f32), FVec F S256x128 .bf16 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v282 v283
  let v317 : Vec F S1x256x128 .bf16 ← Prog.lift (.load arg14 (Rect.unit (s := S1x256x3072) ![0, 0, 2560] S1x256x128.size inb_S1x256x3072_S1x256x128_0_0_2560).toLoadRect (View.loadsAt_vmem h_S1x256x128))
  Prog.lift (.store arg14 (Rect.unit (s := S1x256x3072) ![0, 0, 2560] S1x256x128.size inb_S1x256x3072_S1x256x128_0_0_2560) (k0_pay448 v316) Finset.univ (View.stores_vmem h_S1x256x128 (harg14.storeExact_slice rfl _ packedbf16_S1x256x3072_S1x256x128_0_0_2560) (fun _ => rfl)) (.inl rfl))
  let v322 : Vec F S1x256x128 .bf16 ← Prog.lift (.load arg14 (Rect.unit (s := S1x256x3072) ![0, 0, 2688] S1x256x128.size inb_S1x256x3072_S1x256x128_0_0_2688).toLoadRect (View.loadsAt_vmem h_S1x256x128))
  Prog.lift (.store arg14 (Rect.unit (s := S1x256x3072) ![0, 0, 2688] S1x256x128.size inb_S1x256x3072_S1x256x128_0_0_2688) (k0_pay449 v314) Finset.univ (View.stores_vmem h_S1x256x128 (harg14.storeExact_slice rfl _ packedbf16_S1x256x3072_S1x256x128_0_0_2688) (fun _ => rfl)) (.inl rfl))
  let v327 : Vec F S1x256x128 .bf16 ← Prog.lift (.load arg14 (Rect.unit (s := S1x256x3072) ![0, 0, 2816] S1x256x128.size inb_S1x256x3072_S1x256x128_0_0_2816).toLoadRect (View.loadsAt_vmem h_S1x256x128))
  Prog.lift (.store arg14 (Rect.unit (s := S1x256x3072) ![0, 0, 2816] S1x256x128.size inb_S1x256x3072_S1x256x128_0_0_2816) (k0_pay450 v314) Finset.univ (View.stores_vmem h_S1x256x128 (harg14.storeExact_slice rfl _ packedbf16_S1x256x3072_S1x256x128_0_0_2816) (fun _ => rfl)) (.inl rfl))
  let v332 : Vec F S1x256x128 .bf16 ← Prog.lift (.load arg14 (Rect.unit (s := S1x256x3072) ![0, 0, 2944] S1x256x128.size inb_S1x256x3072_S1x256x128_0_0_2944).toLoadRect (View.loadsAt_vmem h_S1x256x128))
  Prog.lift (.store arg14 (Rect.unit (s := S1x256x3072) ![0, 0, 2944] S1x256x128.size inb_S1x256x3072_S1x256x128_0_0_2944) (k0_pay451 v314) Finset.univ (View.stores_vmem h_S1x256x128 (harg14.storeExact_slice rfl _ packedbf16_S1x256x3072_S1x256x128_0_0_2944) (fun _ => rfl)) (.inl rfl))
  kk v104 v108

/-- Attention forward, head by head. -/
noncomputable def segC (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole)  (kk : IVec S256x128 32 → Prog (TpuEff nD τ sig (Elt F) Λ₀ .tc) PUnit) :
    Prog (TpuEff nD τ sig (Elt F) Λ₀ .tc) PUnit := do
  have v338 : IVec S256x128 32 := iota .tc S256x128 32 [1] iota_S256x128_d1_w32
  let v340 : Vec F S1x256x128 .bf16 ← Prog.lift (.load arg14 (Rect.unit (s := S1x256x3072) ![0, 0, 0] S1x256x128.size inb_S1x256x3072_S1x256x128_0_0_0).toLoadRect (View.loadsAt_vmem h_S1x256x128))
  let v342 : Vec F S1x256x128 .bf16 ← Prog.lift (.load arg14 (Rect.unit (s := S1x256x3072) ![0, 0, 1024] S1x256x128.size inb_S1x256x3072_S1x256x128_0_0_1024).toLoadRect (View.loadsAt_vmem h_S1x256x128))
  let v344 : Vec F S1x256x128 .bf16 ← Prog.lift (.load arg14 (Rect.unit (s := S1x256x3072) ![0, 0, 2048] S1x256x128.size inb_S1x256x3072_S1x256x128_0_0_2048).toLoadRect (View.loadsAt_vmem h_S1x256x128))
  have cst_186 : F .f32 := Scalar.ofBits .f32 0xFF800000#32
  have v337 : IVec S128x128 1 := k0_pay452
  have v339 : FVec F S256x128 .f32 := k0_pay453 (F := F)
  have v345 : FVec F S256x128 .bf16 := k0_pay454 v344
  have v348 : FVec F S256x256 .f32 := k0_pay455 v340 v342
  have v349 : FVec F S128x128 .f32 := k0_pay456 v340 v342
  let ⟨v356, v360, v366, v388, v389⟩ : Σ' (v356 : FVec F S128x256 .f32) (v360 : FVec F S128x1 .f32) (v366 : FVec F S128x1 .f32) (v388 : FVec F S128x128 .f32), Vec F S1x128x128 .f32 ← k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v337 v345 v348 v349 cst_186
  let ⟨v398, v401, v407, v429⟩ : Σ' (v398 : FVec F S128x1 .f32) (v401 : FVec F S128x1 .f32) (v407 : FVec F S128x1 .f32), FVec F S128x256 .f32 ← k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v345 v356 v360 v366 v388 v389
  let ⟨v445, v451, v462, v463, v466, v469⟩ : Σ' (v445 : FVec F S256x128 .f32) (v451 : FVec F S256x128 .bf16) (v462 : FVec F S128x256 .f32) (v463 : FVec F S128x128 .bf16) (v466 : FVec F S128x1 .f32), FVec F S128x128 .f32 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v337 v338 v339 v398 v401 v407 v429
  let ⟨v504, v507⟩ : Σ' (v504 : FVec F S128x1 .f32), FVec F S128x1 .f32 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v462 v463 v466 v469
  let ⟨v545, c1_i32⟩ : Σ' (v545 : FVec F S128x1 .f32), BitVec 32 ← k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v451 v462 v507
  let ⟨v551, v557, v568, v572, v575, v578, v579, v583⟩ : Σ' (v551 : FVec F S256x128 .f32) (v557 : FVec F S256x128 .bf16) (v568 : FVec F S128x256 .f32) (v572 : FVec F S128x1 .f32) (v575 : FVec F S128x128 .f32) (v578 : FVec F S128x1 .f32) (v579 : FVec F S128x1 .f32), FVec F S128x128 .f32 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v337 v338 v445 v504 v545 c1_i32
  let ⟨v610, v613, v616, v619, v620, v624, v625⟩ : Σ' (v610 : FVec F S128x1 .f32) (v613 : FVec F S128x1 .f32) (v616 : FVec F S128x256 .f32) (v619 : FVec F S128x1 .f32) (v620 : FVec F S128x1 .f32) (v624 : FVec F S128x128 .f32), Vec F S128x128 .f32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v557 v568 v572 v575 v578 v579 v583
  let ⟨v657, v659, v661⟩ : Σ' (v657 : FVec F S256x128 .f32) (v659 : FVec F S256x128 .bf16), FVec F S256x128 .bf16 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v338 v551 v610 v613 v616 v619 v620 v624 v625
  let ⟨v663, v674, v678, v681, v684, v685, v701⟩ : Σ' (v663 : FVec F S256x128 .bf16) (v674 : FVec F S128x256 .f32) (v678 : FVec F S128x1 .f32) (v681 : FVec F S128x128 .f32) (v684 : FVec F S128x1 .f32) (v685 : FVec F S128x1 .f32), FVec F S128x128 .fp8e4m3 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v337 v659 v661
  let ⟨v716, v719, v722, v725, v726, v739, v740⟩ : Σ' (v716 : FVec F S128x1 .f32) (v719 : FVec F S128x1 .f32) (v722 : FVec F S128x256 .f32) (v725 : FVec F S128x1 .f32) (v726 : FVec F S128x1 .f32) (v739 : FVec F S128x128 .f32), FVec F S128x128 .f32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v663 v674 v678 v681 v684 v685 v701
  let ⟨v763, v769, v775, v776, v777⟩ : Σ' (v763 : FVec F S256x128 .f32) (v769 : FVec F S256x128 .bf16) (v775 : FVec F S128x128 .f32) (v776 : FVec F S128x128 .f32), FVec F S128x128 .f32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v337 v338 v657 v716 v719 v722 v725 v726 v739 v740
  let ⟨v780, v784, v790, cst_397⟩ : Σ' (v780 : FVec F S128x256 .f32) (v784 : FVec F S128x1 .f32) (v790 : FVec F S128x1 .f32), F .f32 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v337 v769 v775 v776 v777
  let ⟨v822, v825, v831, v853⟩ : Σ' (v822 : FVec F S128x1 .f32) (v825 : FVec F S128x1 .f32) (v831 : FVec F S128x1 .f32), FVec F S128x256 .f32 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v769 v780 v784 v790 cst_397
  let ⟨v869, v875, v886, v887, v890, v893, v896⟩ : Σ' (v869 : FVec F S256x128 .f32) (v875 : FVec F S256x128 .bf16) (v886 : FVec F S128x256 .f32) (v887 : FVec F S128x128 .bf16) (v890 : FVec F S128x1 .f32) (v893 : FVec F S128x128 .f32), FVec F S128x1 .f32 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v337 v338 v763 v822 v825 v831 v853
  let ⟨v928, v931, v934, v935⟩ : Σ' (v928 : FVec F S128x1 .f32) (v931 : FVec F S128x1 .f32) (v934 : FVec F S128x256 .f32), FVec F S128x256 .f32 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v886 v887 v890 v893 v896
  let ⟨v971, v973⟩ : Σ' (v971 : IVec S256x128 1), FVec F S256x1 .f32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v338 v875 v928 v931 v934 v935
  let ⟨v975, v981, v992, v996, v999, v1002, v1003, v1007, v1011⟩ : Σ' (v975 : FVec F S256x128 .f32) (v981 : FVec F S256x128 .bf16) (v992 : FVec F S128x256 .f32) (v996 : FVec F S128x1 .f32) (v999 : FVec F S128x128 .f32) (v1002 : FVec F S128x1 .f32) (v1003 : FVec F S128x1 .f32) (v1007 : FVec F S128x128 .f32), FVec F S128x128 .bf16 ← k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v337 v869 v971 v973
  let ⟨v1034, v1037, v1040, v1043, v1044, v1048, v1052⟩ : Σ' (v1034 : FVec F S128x1 .f32) (v1037 : FVec F S128x1 .f32) (v1040 : FVec F S128x256 .f32) (v1043 : FVec F S128x1 .f32) (v1044 : FVec F S128x1 .f32) (v1048 : FVec F S128x128 .f32), FVec F S128x128 .bf16 ← k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v981 v992 v996 v999 v1002 v1003 v1007 v1011
  let ⟨v1081, v1083, v1085, v1086⟩ : Σ' (v1081 : FVec F S256x128 .f32) (v1083 : FVec F S256x128 .bf16) (v1085 : FVec F S256x128 .bf16), Vec F S1x256x128 .bf16 ← k0_part96 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v338 v975 v1034 v1037 v1040 v1043 v1044 v1048 v1052
  let ⟨v1087, v1098, v1102, v1105, v1108, v1109, v1125⟩ : Σ' (v1087 : FVec F S256x128 .bf16) (v1098 : FVec F S128x256 .f32) (v1102 : FVec F S128x1 .f32) (v1105 : FVec F S128x128 .f32) (v1108 : FVec F S128x1 .f32) (v1109 : FVec F S128x1 .f32), FVec F S128x128 .fp8e4m3 ← k0_part97 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v337 v1083 v1085 v1086
  let ⟨v1140, v1143, v1146, v1149, v1150, v1166⟩ : Σ' (v1140 : FVec F S128x1 .f32) (v1143 : FVec F S128x1 .f32) (v1146 : FVec F S128x256 .f32) (v1149 : FVec F S128x1 .f32) (v1150 : FVec F S128x1 .f32), FVec F S128x128 .fp8e4m3 ← k0_part98 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1087 v1098 v1102 v1105 v1108 v1109 v1125
  let v1167 : Vec F S1x128x128 .fp8e4m3 ← Prog.lift (.load arg17 (Rect.unit (s := S1x256x1024) ![0, 128, 896] S1x128x128.size inb_S1x256x1024_S1x128x128_0_128_896).toLoadRect (View.loadsAt_vmem h_S1x128x128))
  Prog.lift (.store arg17 (Rect.unit (s := S1x256x1024) ![0, 128, 896] S1x128x128.size inb_S1x256x1024_S1x128x128_0_128_896) (k0_pay666 v1166) Finset.univ (View.stores_vmem h_S1x128x128 (harg17.storeExact_slice rfl _ packedfp8e4m3_S1x256x1024_S1x128x128_0_128_896) (fun _ => rfl)) (.inl rfl))
  let v1172 : Vec F S1x128x256 .f32 ← Prog.lift (.load arg23 (Rect.unit (s := S8x256x256) ![7, 128, 0] S1x128x256.size inb_S8x256x256_S1x128x256_7_128_0).toLoadRect (View.loadsAt_vmem h_S1x128x256))
  Prog.lift (.store arg23 (Rect.unit (s := S8x256x256) ![7, 128, 0] S1x128x256.size inb_S8x256x256_S1x128x256_7_128_0) (k0_pay667 v1146 v1150) Finset.univ (View.stores_vmem_bits_univ h_S1x128x256 rfl) (.inl rfl))
  let v1198 : Vec F S1x8x256 .f32 ← Prog.lift (.load arg11 (Rect.unit (s := S1x8x256) ![0, 0, 0] S1x8x256.size inb_S1x8x256_S1x8x256_0_0_0).toLoadRect (View.loadsAt_vmem h_S1x8x256))
  Prog.lift (.store arg11 (Rect.unit (s := S1x8x256) ![0, 0, 0] S1x8x256.size inb_S1x8x256_S1x8x256_0_0_0) (k0_pay668 v338 v1081 v1140 v1143 v1149) Finset.univ (View.stores_vmem_bits_univ h_S1x8x256 rfl) (.inl rfl))
  kk v338

/-- The output projection. -/
noncomputable def segD (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole)  (kk : FVec F S256x512 .f32 → Prog (TpuEff nD τ sig (Elt F) Λ₀ .tc) PUnit) :
    Prog (TpuEff nD τ sig (Elt F) Λ₀ .tc) PUnit := do
  let v1201 : Vec F S1x256x1024 .fp8e4m3 ← Prog.lift (.load arg17 (Rect.unit (s := S1x256x1024) ![0, 0, 0] S1x256x1024.size inb_S1x256x1024_S1x256x1024_0_0_0).toLoadRect (View.loadsAt_vmem h_S1x256x1024))
  let v1203 : Vec F S1024x512 .fp8e4m3 ← Prog.lift (.load arg3 (Rect.unit (s := S1024x4096) ![0, 0] S1024x512.size inb_S1024x4096_S1024x512_0_0).toLoadRect (View.loadsAt_vmem h_S1024x512))
  have v1205 : FVec F S256x512 .f32 := (k0_pay669 v1201 v1203)
  let v1235 : FVec F S256x512 .f32 ← k0_part100 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1205
  let v1265 : FVec F S256x512 .f32 ← k0_part101 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1235
  let v1268 : Vec F S256x512 .f32 ← Prog.lift (.load arg22 (Rect.unit (s := S256x4096) ![0, 3072] S256x512.size inb_S256x4096_S256x512_0_3072).toLoadRect (View.loadsAt_vmem h_S256x512))
  Prog.lift (.store arg22 (Rect.unit (s := S256x4096) ![0, 3072] S256x512.size inb_S256x4096_S256x512_0_3072) (k0_pay678 v1265) Finset.univ (View.stores_vmem_bits_univ h_S256x512 rfl) (.inl rfl))
  let v1271 : Vec F S1x256x1024 .fp8e4m3 ← Prog.lift (.load arg17 (Rect.unit (s := S1x256x1024) ![0, 0, 0] S1x256x1024.size inb_S1x256x1024_S1x256x1024_0_0_0).toLoadRect (View.loadsAt_vmem h_S1x256x1024))
  let v1273 : Vec F S1024x512 .fp8e4m3 ← Prog.lift (.load arg3 (Rect.unit (s := S1024x4096) ![0, 3584] S1024x512.size inb_S1024x4096_S1024x512_0_3584).toLoadRect (View.loadsAt_vmem h_S1024x512))
  let v1278 : Vec F S256x512 .f32 ← Prog.lift (.load arg22 (Rect.unit (s := S256x4096) ![0, 3584] S256x512.size inb_S256x4096_S256x512_0_3584).toLoadRect (View.loadsAt_vmem h_S256x512))
  Prog.lift (.store arg22 (Rect.unit (s := S256x4096) ![0, 3584] S256x512.size inb_S256x4096_S256x512_0_3584) (k0_pay679 v1271 v1273) Finset.univ (View.stores_vmem_bits_univ h_S256x512 rfl) (.inl rfl))
  kk v1265

/-- The gradient at the attention output. -/
noncomputable def segE (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole)  (kk : Prog (TpuEff nD τ sig (Elt F) Λ₀ .tc) PUnit) :
    Prog (TpuEff nD τ sig (Elt F) Λ₀ .tc) PUnit := do
  let v1282 : Vec F S1x256x4096 .fp8e5m2 ← Prog.lift (.load arg18 (Rect.unit (s := S1x256x4096) ![0, 0, 0] S1x256x4096.size inb_S1x256x4096_S1x256x4096_0_0_0).toLoadRect (View.loadsAt_vmem h_S1x256x4096))
  let v1284 : Vec F S512x4096 .fp8e4m3 ← Prog.lift (.load arg3 (Rect.unit (s := S1024x4096) ![0, 0] S512x4096.size inb_S1024x4096_S512x4096_0_0).toLoadRect (View.loadsAt_vmem h_S512x4096))
  let v1290 : Vec F S256x512 .bf16 ← Prog.lift (.load arg25 (Rect.unit (s := S256x1024) ![0, 0] S256x512.size inb_S256x1024_S256x512_0_0).toLoadRect (View.loadsAt_vmem h_S256x512))
  Prog.lift (.store arg25 (Rect.unit (s := S256x1024) ![0, 0] S256x512.size inb_S256x1024_S256x512_0_0) (k0_pay683 v1282 v1284) Finset.univ (View.stores_vmem h_S256x512 (harg25.storeExact_slice rfl _ packedbf16_S256x1024_S256x512_0_0) (fun _ => rfl)) (.inl rfl))
  let v1293 : Vec F S1x256x4096 .fp8e5m2 ← Prog.lift (.load arg18 (Rect.unit (s := S1x256x4096) ![0, 0, 0] S1x256x4096.size inb_S1x256x4096_S1x256x4096_0_0_0).toLoadRect (View.loadsAt_vmem h_S1x256x4096))
  let v1295 : Vec F S512x4096 .fp8e4m3 ← Prog.lift (.load arg3 (Rect.unit (s := S1024x4096) ![512, 0] S512x4096.size inb_S1024x4096_S512x4096_512_0).toLoadRect (View.loadsAt_vmem h_S512x4096))
  let v1301 : Vec F S256x512 .bf16 ← Prog.lift (.load arg25 (Rect.unit (s := S256x1024) ![0, 512] S256x512.size inb_S256x1024_S256x512_0_512).toLoadRect (View.loadsAt_vmem h_S256x512))
  Prog.lift (.store arg25 (Rect.unit (s := S256x1024) ![0, 512] S256x512.size inb_S256x1024_S256x512_0_512) (k0_pay684 v1293 v1295) Finset.univ (View.stores_vmem h_S256x512 (harg25.storeExact_slice rfl _ packedbf16_S256x1024_S256x512_0_512) (fun _ => rfl)) (.inl rfl))
  kk

/-- Attention backward, head by head. -/
noncomputable def segF (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole) (v104 : FVec F S256x128 .f32) (v108 : FVec F S256x128 .f32) (v338 : IVec S256x128 32) (kk : Prog (TpuEff nD τ sig (Elt F) Λ₀ .tc) PUnit) :
    Prog (TpuEff nD τ sig (Elt F) Λ₀ .tc) PUnit := do
  let v1305 : Vec F S1x256x128 .bf16 ← Prog.lift (.load arg14 (Rect.unit (s := S1x256x3072) ![0, 0, 0] S1x256x128.size inb_S1x256x3072_S1x256x128_0_0_0).toLoadRect (View.loadsAt_vmem h_S1x256x128))
  let v1307 : Vec F S1x256x128 .bf16 ← Prog.lift (.load arg14 (Rect.unit (s := S1x256x3072) ![0, 0, 1024] S1x256x128.size inb_S1x256x3072_S1x256x128_0_0_1024).toLoadRect (View.loadsAt_vmem h_S1x256x128))
  let v1309 : Vec F S1x256x128 .bf16 ← Prog.lift (.load arg14 (Rect.unit (s := S1x256x3072) ![0, 0, 2048] S1x256x128.size inb_S1x256x3072_S1x256x128_0_0_2048).toLoadRect (View.loadsAt_vmem h_S1x256x128))
  let v1311 : Vec F S256x128 .bf16 ← Prog.lift (.load arg25 (Rect.unit (s := S256x1024) ![0, 0] S256x128.size inb_S256x1024_S256x128_0_0).toLoadRect (View.loadsAt_vmem h_S256x128))
  let v1313 : Vec F S256x128 .f32 ← Prog.lift (.load arg24 (Rect.unit (s := S256x1024) ![0, 0] S256x128.size inb_S256x1024_S256x128_0_0).toLoadRect (View.loadsAt_vmem h_S256x128))
  let v1323 : Vec F S1x128x128 .f32 ← Prog.lift (.load arg23 (Rect.unit (s := S8x256x256) ![0, 0, 0] S1x128x128.size inb_S8x256x256_S1x128x128_0_0_0).toLoadRect (View.loadsAt_vmem h_S1x128x128))
  have v1306 : FVec F S256x128 .bf16 := k0_pay685 v1305
  have v1308 : FVec F S256x128 .bf16 := k0_pay686 v1307
  have v1316 : FVec F S256x1 .f32 := k0_pay687 v1311 v1313
  have v1321 : FVec F S256x128 .f32 := k0_pay688 v338 v1311 v1313
  have v1322 : FVec F S256x256 .f32 := k0_pay689 v1309 v1311
  have v1324 : FVec F S128x128 .f32 := k0_pay690 v1323
  let ⟨v1354, v1366, v1368, v1369⟩ : Σ' (v1354 : FVec F S256x128 .f32) (v1366 : FVec F S256x128 .f32) (v1368 : FVec F S256x128 .f32), FVec F S256x128 .f32 ← k0_part104 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v1306 v1308 v1311 v1316 v1322 v1324
  let ⟨v1392, v1394, v1396, v1397, v1400⟩ : Σ' (v1392 : FVec F S256x128 .bf16) (v1394 : FVec F S256x128 .bf16) (v1396 : FVec F S256x128 .bf16) (v1397 : Vec F S256x128 .bf16), FVec F S256x128 .f32 ← k0_part105 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1354 v1366 v1368 v1369
  let ⟨v1407, v1436, v1439, v1440, v1441, v1442⟩ : Σ' (v1407 : FVec F S256x128 .f32) (v1436 : FVec F S256x128 .f32) (v1439 : FVec F S256x128 .f32) (v1440 : FVec F S256x128 .f32) (v1441 : FVec F S256x128 .bf16), Vec F S1x256x128 .bf16 ← k0_part106 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v338 v1321 v1392 v1394 v1396 v1397 v1400
  let v1478 : FVec F S256x128 .bf16 ← k0_part107 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v1436 v1439 v1440 v1441 v1442
  let ⟨v1480, v1483, v1493, v1515, v1517, v1518⟩ : Σ' (v1480 : FVec F S256x128 .bf16) (v1483 : Vec F S256x128 .bf16) (v1493 : FVec F S256x128 .f32) (v1515 : FVec F S256x256 .bf16) (v1517 : FVec F S128x256 .bf16), FVec F S128x256 .bf16 ← k0_part108 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v338 v1407
  let ⟨v1526, cst_799⟩ : Σ' (v1526 : FVec F S256x128 .f32), F .f32 ← k0_part109 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v1478 v1480 v1483 v1515 v1517 v1518
  let ⟨v1564, v1566, v1569, v1574, v1579, v1580, v1582, v1584, v1585, v1587⟩ : Σ' (v1564 : FVec F S256x128 .bf16) (v1566 : FVec F S256x128 .bf16) (v1569 : Vec F S256x128 .bf16) (v1574 : FVec F S256x1 .f32) (v1579 : FVec F S256x128 .f32) (v1580 : FVec F S256x256 .f32) (v1582 : FVec F S128x128 .f32) (v1584 : FVec F S128x256 .f32) (v1585 : FVec F S128x128 .f32), FVec F S128x128 .f32 ← k0_part110 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v338 v1493 v1526 cst_799
  let ⟨v1612, v1624, v1629, v1630⟩ : Σ' (v1612 : FVec F S256x128 .f32) (v1624 : FVec F S256x128 .f32) (v1629 : FVec F S256x128 .fp8e5m2), Vec F S1x256x128 .fp8e5m2 ← k0_part111 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v1564 v1566 v1569 v1574 v1580 v1582 v1584 v1585 v1587
  let ⟨v1650, v1652, v1654, v1655, v1660, v1662⟩ : Σ' (v1650 : FVec F S256x128 .bf16) (v1652 : FVec F S256x128 .bf16) (v1654 : FVec F S256x128 .bf16) (v1655 : Vec F S256x128 .bf16) (v1660 : FVec F S256x1 .f32), IVec S256x128 1 ← k0_part112 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v338 v1612 v1624 v1629 v1630
  let ⟨v1665, v1697, v1698, v1703, v1704⟩ : Σ' (v1665 : FVec F S256x128 .f32) (v1697 : FVec F S256x128 .f32) (v1698 : FVec F S256x128 .f32) (v1703 : FVec F S256x128 .f32), FVec F S256x128 .f32 ← k0_part113 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v1579 v1650 v1652 v1654 v1655 v1660 v1662
  let ⟨v1736, v1738⟩ : Σ' (v1736 : FVec F S256x128 .bf16), FVec F S256x128 .bf16 ← k0_part114 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v1697 v1698 v1703 v1704
  let ⟨v1741, v1751, v1773, v1777, v1780⟩ : Σ' (v1741 : Vec F S256x128 .bf16) (v1751 : FVec F S256x128 .f32) (v1773 : FVec F S256x256 .bf16) (v1777 : FVec F S256x256 .bf16), FVec F S256x128 .f32 ← k0_part115 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v338 v1665 v1738
  let v1817 : FVec F S256x128 .fp8e5m2 ← k0_part116 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v1736 v1741 v1773 v1777 v1780
  let ⟨v1822, v1824, v1827, v1837, v1840, v1842, v1849, v1850, v1851⟩ : Σ' (v1822 : FVec F S256x128 .bf16) (v1824 : FVec F S256x128 .bf16) (v1827 : Vec F S256x128 .bf16) (v1837 : FVec F S256x128 .f32) (v1840 : FVec F S128x128 .f32) (v1842 : FVec F S128x256 .f32) (v1849 : FVec F S128x128 .bf16) (v1850 : FVec F S128x256 .f32), FVec F S128x1 .f32 ← k0_part117 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v338 v1751 v1817
  let ⟨v1870, v1882, cst_987, v1891⟩ : Σ' (v1870 : FVec F S256x128 .f32) (v1882 : FVec F S256x128 .f32) (cst_987 : F .f32), FVec F S256x128 .f32 ← k0_part118 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v1822 v1824 v1827 v1840 v1842 v1849 v1850 v1851
  let ⟨v1908, v1910, v1913, v1918, v1923, v1924⟩ : Σ' (v1908 : FVec F S256x128 .bf16) (v1910 : FVec F S256x128 .bf16) (v1913 : Vec F S256x128 .bf16) (v1918 : FVec F S256x1 .f32) (v1923 : FVec F S256x128 .f32), FVec F S256x256 .f32 ← k0_part119 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v338 v1837 v1870 v1882 cst_987 v1891
  let ⟨v1956, v1964, v1965, v1967⟩ : Σ' (v1956 : FVec F S256x128 .f32) (v1964 : FVec F S256x128 .f32) (v1965 : FVec F S256x128 .f32), FVec F S256x128 .f32 ← k0_part120 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v1908 v1910 v1913 v1918 v1924
  let v1974 : Vec F S1x256x128 .fp8e5m2 ← Prog.lift (.load arg19 (Rect.unit (s := S1x256x3072) ![0, 0, 896] S1x256x128.size inb_S1x256x3072_S1x256x128_0_0_896).toLoadRect (View.loadsAt_vmem h_S1x256x128))
  Prog.lift (.store arg19 (Rect.unit (s := S1x256x3072) ![0, 0, 896] S1x256x128.size inb_S1x256x3072_S1x256x128_0_0_896) (k0_pay826 v1964) Finset.univ (View.stores_vmem h_S1x256x128 (harg19.storeExact_slice rfl _ packedfp8e5m2_S1x256x3072_S1x256x128_0_0_896) (fun _ => rfl)) (.inl rfl))
  let v1982 : Vec F S1x256x128 .fp8e5m2 ← Prog.lift (.load arg19 (Rect.unit (s := S1x256x3072) ![0, 0, 1920] S1x256x128.size inb_S1x256x3072_S1x256x128_0_0_1920).toLoadRect (View.loadsAt_vmem h_S1x256x128))
  Prog.lift (.store arg19 (Rect.unit (s := S1x256x3072) ![0, 0, 1920] S1x256x128.size inb_S1x256x3072_S1x256x128_0_0_1920) (k0_pay827 v1965 v1967) Finset.univ (View.stores_vmem h_S1x256x128 (harg19.storeExact_slice rfl _ packedfp8e5m2_S1x256x3072_S1x256x128_0_0_1920) (fun _ => rfl)) (.inl rfl))
  let v1990 : Vec F S1x256x128 .fp8e5m2 ← Prog.lift (.load arg19 (Rect.unit (s := S1x256x3072) ![0, 0, 2944] S1x256x128.size inb_S1x256x3072_S1x256x128_0_0_2944).toLoadRect (View.loadsAt_vmem h_S1x256x128))
  Prog.lift (.store arg19 (Rect.unit (s := S1x256x3072) ![0, 0, 2944] S1x256x128.size inb_S1x256x3072_S1x256x128_0_0_2944) (k0_pay828 v1956) Finset.univ (View.stores_vmem h_S1x256x128 (harg19.storeExact_slice rfl _ packedfp8e5m2_S1x256x3072_S1x256x128_0_0_2944) (fun _ => rfl)) (.inl rfl))
  let v1995 : Vec F S1x8x256 .f32 ← Prog.lift (.load arg12 (Rect.unit (s := S1x8x256) ![0, 0, 0] S1x8x256.size inb_S1x8x256_S1x8x256_0_0_0).toLoadRect (View.loadsAt_vmem h_S1x8x256))
  Prog.lift (.store arg12 (Rect.unit (s := S1x8x256) ![0, 0, 0] S1x8x256.size inb_S1x8x256_S1x8x256_0_0_0) (k0_pay829 v1923) Finset.univ (View.stores_vmem_bits_univ h_S1x8x256 rfl) (.inl rfl))
  kk

/-- The gradient at the input. -/
noncomputable def segG (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole)  :
    Prog (TpuEff nD τ sig (Elt F) Λ₀ .tc) PUnit := do
  let v1998 : Vec F S1x256x3072 .fp8e5m2 ← Prog.lift (.load arg19 (Rect.unit (s := S1x256x3072) ![0, 0, 0] S1x256x3072.size inb_S1x256x3072_S1x256x3072_0_0_0).toLoadRect (View.loadsAt_vmem h_S1x256x3072))
  let v2000 : Vec F S512x3072 .fp8e4m3 ← Prog.lift (.load arg2 (Rect.unit (s := S4096x3072) ![0, 0] S512x3072.size inb_S4096x3072_S512x3072_0_0).toLoadRect (View.loadsAt_vmem h_S512x3072))
  have v1999 : FVec F S256x3072 .fp8e5m2 := k0_pay830 v1998
  let v2032 : Vec F S1x256x3072 .fp8e5m2 ← k0_part122 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1999 v2000
  k0_part123 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2032
  let v2096 : FVec F S256x512 .bf16 ← k0_part124 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  let v2129 : FVec F S256x512 .f32 ← k0_part125 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2096
  have v2130 : FVec F S256x512 .bf16 := k0_pay840 v2129
  let v2131 : Vec F S1x256x512 .bf16 ← Prog.lift (.load arg10 (Rect.unit (s := S1x256x4096) ![0, 0, 3584] S1x256x512.size inb_S1x256x4096_S1x256x512_0_0_3584).toLoadRect (View.loadsAt_vmem h_S1x256x512))
  Prog.lift (.store arg10 (Rect.unit (s := S1x256x4096) ![0, 0, 3584] S1x256x512.size inb_S1x256x4096_S1x256x512_0_0_3584) (k0_pay1 v2130) Finset.univ (View.stores_vmem h_S1x256x512 (harg10.storeExact_slice rfl _ packedbf16_S1x256x4096_S1x256x512_0_0_3584) (fun _ => rfl)) (.inl rfl))
  if k0_h2 : k0_cond2 i = 1#1 then do
    let v2137 : Vec F S8x4096 .f32 ← Prog.lift (.load arg26 (Rect.unit (s := S8x4096) ![0, 0] S8x4096.size inb_S8x4096_S8x4096_0_0).toLoadRect (View.loadsAt_vmem h_S8x4096))
    let v2142 : Vec F S1x4096 .f32 ← Prog.lift (.load arg20 (Rect.unit (s := S1x4096) ![0, 0] S1x4096.size inb_S1x4096_S1x4096_0_0).toLoadRect (View.loadsAt_vmem h_S1x4096))
    Prog.lift (.store arg20 (Rect.unit (s := S1x4096) ![0, 0] S1x4096.size inb_S1x4096_S1x4096_0_0) (k0_pay2 v2137) Finset.univ (View.stores_vmem_bits_univ h_S1x4096 rfl) (.inl rfl))
    let v2143 : Vec F S8x4096 .f32 ← Prog.lift (.load arg27 (Rect.unit (s := S8x4096) ![0, 0] S8x4096.size inb_S8x4096_S8x4096_0_0).toLoadRect (View.loadsAt_vmem h_S8x4096))
    let v2148 : Vec F S1x4096 .f32 ← Prog.lift (.load arg21 (Rect.unit (s := S1x4096) ![0, 0] S1x4096.size inb_S1x4096_S1x4096_0_0).toLoadRect (View.loadsAt_vmem h_S1x4096))
    Prog.lift (.store arg21 (Rect.unit (s := S1x4096) ![0, 0] S1x4096.size inb_S1x4096_S1x4096_0_0) (k0_pay3 v2143) Finset.univ (View.stores_vmem_bits_univ h_S1x4096 rfl) (.inl rfl))
    pure ⟨⟩
  else do
    pure ⟨⟩
  pure ⟨⟩

end Cert.MainIdeal.Gen
-- ==== Proof.Whole.lean ====
/- The main body cut into its stretches. -/
module

public import proofs.«01_k».proof.Proof.Segs
public import proofs.«01_k».proof.Proof.Gen.MainIdeal.Frame

@[expose] public section

set_option maxRecDepth 65536
set_option maxHeartbeats 3200000
set_option synthInstance.maxSize 4096

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The main body is its seven stretches, the loop between the fourth and the fifth. -/
theorem main_body_eq (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole) :
    cc0_mus_attn_main (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 =
    (segA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 fun arg0 v100 =>
    segB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v100 fun v104 v108 =>
    segC i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 fun v338 =>
    segD i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 fun v1265 =>
    Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1265) >>= fun _ =>
    segE i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 <|
    segF i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v338 <|
    segG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  rw [cc0_mus_attn_main_eq_skeleton]
  unfold cc0_mus_attn_main_skel
  rw [k0_part126_eq_skeleton]
  unfold k0_part126_skel segA
  repeat first
    | rw [bind_assoc]
    | rw [pure_bind]
    | (refine bind_congr ?_; intro r; repeat obtain ⟨_, r⟩ := (r : PSigma _))
    | dsimp only
    | (rw [k0_part77_eq_skeleton]; unfold k0_part77_skel)
    | (rw [k0_part99_eq_skeleton]; unfold k0_part99_skel)
    | (rw [k0_part102_eq_skeleton]; unfold k0_part102_skel)
    | (rw [k0_part103_eq_skeleton]; unfold k0_part103_skel)
    | (rw [k0_part121_eq_skeleton]; unfold k0_part121_skel)
    | unfold segB
    | unfold segC
    | unfold segD
    | unfold segE
    | unfold segF
    | unfold segG

end Cert.MainIdeal.Gen

end
-- ==== Proof.RunA.lean ====
/- What the first stretch of the main body stores: the codes of the input. -/
module

public import proofs.«01_k».proof.Proof.Segs
public import proofs.«01_k».proof.Proof.Gen.MainIdeal.Frame

@[expose] public section

set_option maxRecDepth 65536
set_option maxHeartbeats 3200000
set_option synthInstance.maxSize 4096

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The codes of the input, as pieces of their buffer; the accumulators of the two bias gradients at anything. -/
noncomputable def runA (c : Dev nD) (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole)
    (x1 : Vec F S1x256x4096 .bf16) (x6 : Vec F S1x64x256 .f32) :
    Σ' (w_v100 : FVec F S64x256 .f32), { L16 : List (View.Piece (Elt F) S1x256x4096 .fp8e4m3) //
      ∀ (E : Set ℕ) (K : PUnit → sProp 𝕄) (kk : BitVec 32 → FVec F S64x256 .f32 → Prog (TpuEff nD τ sig (Elt F) Λ₀ .tc) PUnit),
        iprop(owns (c : Thread nD τ) arg1 fullShare x1 ∗ owns (c : Thread nD τ) arg6 fullShare x6 ∗ (∃ d, owns (c : Thread nD τ) arg16 fullShare d) ∗ (∃ d, owns (c : Thread nD τ) arg26 fullShare d) ∗ (∃ d, owns (c : Thread nD τ) arg27 fullShare d)
            ∗ (iprop(owns (c : Thread nD τ) arg1 fullShare x1 ∗ owns (c : Thread nD τ) arg6 fullShare x6 ∗ (∃ f, arg16.view.loc (c : Thread nD τ) ↦[arg16.view.set]{fullShare} arg16.view.writes (Elt F) f L16) ∗ (∃ d, owns (c : Thread nD τ) arg26 fullShare d) ∗ (∃ d, owns (c : Thread nD τ) arg27 fullShare d)) -∗ wp frame (wpE (defs₀ (F := F)) Variants.none c none) E (kk (BitVec.ofNat 32 (i 0).val) w_v100) K))
          ⊢ wp frame (wpE (defs₀ (F := F)) Variants.none c none) E (segA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27  kk) K } := by
  refine ⟨?_, ?_, fun E K kk => ?run⟩
  case run =>
    unfold segA
    simp only [k0_part68_eq_skeleton, k0_part69_eq_skeleton, k0_part70_eq_skeleton]
    unfold owns
    iintro ⟨⟨%f1, %hf1, H1⟩, ⟨%f6, %hf6, H6⟩, ⟨%d16, %f16, -, H16⟩, ⟨%d26, %f26, -, H26⟩, ⟨%d27, %f27, -, H27⟩, Hk⟩
    obtain rfl := harg1.eq_unread hf1
    obtain rfl := harg6.eq_unread hf6
    sl_exec
    iapply Hk
    isplitl [H1]
    · iexists _; isplitr; · ipureintro; exact harg1.read_unread _
      iexact H1
    isplitl [H6]
    · iexists _; isplitr; · ipureintro; exact harg6.read_unread _
      iexact H6
    isplitl [H16]; · iexists _; iexact H16
    isplitl [H26]
    · iexists _, _; isplitr; swap; · iexact H26
      ipureintro; rfl
    iexists _, _; isplitr; swap; · iexact H27
    ipureintro; rfl

end Cert.MainIdeal.Gen

end
-- ==== Proof.RunB.lean ====
/- What the second stretch of the main body stores: the projections, the first two rotated. -/
module

public import proofs.«01_k».proof.Proof.Segs
public import proofs.«01_k».proof.Proof.Gen.MainIdeal.Frame

@[expose] public section

set_option maxRecDepth 65536
set_option maxHeartbeats 3200000
set_option synthInstance.maxSize 4096

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rotated projections, as pieces of their buffer, from the codes `x16` and the angles. -/
noncomputable def runB (c : Dev nD) (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole) (v100 : FVec F S64x256 .f32)
    (x2 : Vec F S4096x3072 .fp8e4m3) (x7 : Vec F S1x64x256 .f32) (x16 : Vec F S1x256x4096 .fp8e4m3) :
    Σ' (w_v104 : FVec F S256x128 .f32), Σ' (w_v108 : FVec F S256x128 .f32), { L14 : List (View.Piece (Elt F) S1x256x3072 .bf16) //
      ∀ (E : Set ℕ) (K : PUnit → sProp 𝕄) (kk : FVec F S256x128 .f32 → FVec F S256x128 .f32 → Prog (TpuEff nD τ sig (Elt F) Λ₀ .tc) PUnit),
        iprop(owns (c : Thread nD τ) arg2 fullShare x2 ∗ owns (c : Thread nD τ) arg7 fullShare x7 ∗ owns (c : Thread nD τ) arg16 fullShare x16 ∗ (∃ d, owns (c : Thread nD τ) arg14 fullShare d)
            ∗ (iprop(owns (c : Thread nD τ) arg2 fullShare x2 ∗ owns (c : Thread nD τ) arg7 fullShare x7 ∗ owns (c : Thread nD τ) arg16 fullShare x16 ∗ (∃ f, arg14.view.loc (c : Thread nD τ) ↦[arg14.view.set]{fullShare} arg14.view.writes (Elt F) f L14)) -∗ wp frame (wpE (defs₀ (F := F)) Variants.none c none) E (kk w_v104 w_v108) K))
          ⊢ wp frame (wpE (defs₀ (F := F)) Variants.none c none) E (segB i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v100 kk) K } := by
  refine ⟨?_, ?_, ?_, fun E K kk => ?run⟩
  case run =>
    unfold segB
    simp only [k0_part71_eq_skeleton, k0_part72_eq_skeleton, k0_part73_eq_skeleton, k0_part74_eq_skeleton, k0_part75_eq_skeleton, k0_part76_eq_skeleton]
    unfold owns
    iintro ⟨⟨%f2, %hf2, H2⟩, ⟨%f7, %hf7, H7⟩, ⟨%f16, %hf16, H16⟩, ⟨%d14, %f14, -, H14⟩, Hk⟩
    obtain rfl := harg2.eq_unread hf2
    obtain rfl := harg7.eq_unread hf7
    obtain rfl := harg16.eq_unread hf16
    sl_exec
    iapply Hk
    isplitl [H2]
    · iexists _; isplitr; · ipureintro; exact harg2.read_unread _
      iexact H2
    isplitl [H7]
    · iexists _; isplitr; · ipureintro; exact harg7.read_unread _
      iexact H7
    isplitl [H16]
    · iexists _; isplitr; · ipureintro; exact harg16.read_unread _
      iexact H16
    iexists _; iexact H14

end Cert.MainIdeal.Gen

end
-- ==== Proof.RunC.lean ====
/- What the third stretch of the main body stores: attention forward. -/
module

public import proofs.«01_k».proof.Proof.Segs
public import proofs.«01_k».proof.Proof.Gen.MainIdeal.Frame

@[expose] public section

set_option maxRecDepth 65536
set_option maxHeartbeats 3200000
set_option synthInstance.maxSize 4096

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Attention forward of the eight heads: the attention output, its codes and its full-precision copy, the kept weights, the log-sum-exps. -/
noncomputable def runC (c : Dev nD) (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole)
    (x14 : Vec F S1x256x3072 .bf16) :
    Σ' (L11 : List (View.Piece (Elt F) S1x8x256 .f32)), Σ' (L13 : List (View.Piece (Elt F) S1x256x1024 .bf16)), Σ' (L17 : List (View.Piece (Elt F) S1x256x1024 .fp8e4m3)), Σ' (L24 : List (View.Piece (Elt F) S256x1024 .f32)), { L23 : List (View.Piece (Elt F) S8x256x256 .f32) //
      ∀ (E : Set ℕ) (K : PUnit → sProp 𝕄) (kk : IVec S256x128 32 → Prog (TpuEff nD τ sig (Elt F) Λ₀ .tc) PUnit),
        iprop(owns (c : Thread nD τ) arg14 fullShare x14 ∗ (∃ d, owns (c : Thread nD τ) arg11 fullShare d) ∗ (∃ d, owns (c : Thread nD τ) arg13 fullShare d) ∗ (∃ d, owns (c : Thread nD τ) arg17 fullShare d) ∗ (∃ d, owns (c : Thread nD τ) arg24 fullShare d) ∗ (∃ d, owns (c : Thread nD τ) arg23 fullShare d)
            ∗ (iprop(owns (c : Thread nD τ) arg14 fullShare x14 ∗ (∃ f, arg11.view.loc (c : Thread nD τ) ↦[arg11.view.set]{fullShare} arg11.view.writes (Elt F) f L11) ∗ (∃ f, arg13.view.loc (c : Thread nD τ) ↦[arg13.view.set]{fullShare} arg13.view.writes (Elt F) f L13) ∗ (∃ f, arg17.view.loc (c : Thread nD τ) ↦[arg17.view.set]{fullShare} arg17.view.writes (Elt F) f L17) ∗ (∃ f, arg24.view.loc (c : Thread nD τ) ↦[arg24.view.set]{fullShare} arg24.view.writes (Elt F) f L24) ∗ (∃ f, arg23.view.loc (c : Thread nD τ) ↦[arg23.view.set]{fullShare} arg23.view.writes (Elt F) f L23)) -∗ wp frame (wpE (defs₀ (F := F)) Variants.none c none) E (kk (iota .tc S256x128 32 [1] iota_S256x128_d1_w32)) K))
          ⊢ wp frame (wpE (defs₀ (F := F)) Variants.none c none) E (segC i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27  kk) K } := by
  refine ⟨?_, ?_, ?_, ?_, ?_, fun E K kk => ?run⟩
  case run =>
    unfold segC
    simp only [k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]
    unfold owns
    iintro ⟨⟨%f14, %hf14, H14⟩, ⟨%d11, %f11, -, H11⟩, ⟨%d13, %f13, -, H13⟩, ⟨%d17, %f17, -, H17⟩, ⟨%d24, %f24, -, H24⟩, ⟨%d23, %f23, -, H23⟩, Hk⟩
    obtain rfl := harg14.eq_unread hf14
    sl_exec
    iapply Hk
    isplitl [H14]
    · iexists _; isplitr; · ipureintro; exact harg14.read_unread _
      iexact H14
    isplitl [H11]; · iexists _; iexact H11
    isplitl [H13]; · iexists _; iexact H13
    isplitl [H17]; · iexists _; iexact H17
    isplitl [H24]; · iexists _; iexact H24
    iexists _; iexact H23

end Cert.MainIdeal.Gen

end
-- ==== Proof.RunD.lean ====
/- What the fourth stretch of the main body stores: the output projection. -/
module

public import proofs.«01_k».proof.Proof.Segs
public import proofs.«01_k».proof.Proof.Gen.MainIdeal.Frame

@[expose] public section

set_option maxRecDepth 65536
set_option maxHeartbeats 3200000
set_option synthInstance.maxSize 4096

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The output projection, as pieces of its buffer, from the codes `x17`. -/
noncomputable def runD (c : Dev nD) (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole)
    (x3 : Vec F S1024x4096 .fp8e4m3) (x17 : Vec F S1x256x1024 .fp8e4m3) :
    Σ' (w_v1265 : FVec F S256x512 .f32), { L22 : List (View.Piece (Elt F) S256x4096 .f32) //
      ∀ (E : Set ℕ) (K : PUnit → sProp 𝕄) (kk : FVec F S256x512 .f32 → Prog (TpuEff nD τ sig (Elt F) Λ₀ .tc) PUnit),
        iprop(owns (c : Thread nD τ) arg3 fullShare x3 ∗ owns (c : Thread nD τ) arg17 fullShare x17 ∗ (∃ d, owns (c : Thread nD τ) arg22 fullShare d)
            ∗ (iprop(owns (c : Thread nD τ) arg3 fullShare x3 ∗ owns (c : Thread nD τ) arg17 fullShare x17 ∗ (∃ f, arg22.view.loc (c : Thread nD τ) ↦[arg22.view.set]{fullShare} arg22.view.writes (Elt F) f L22)) -∗ wp frame (wpE (defs₀ (F := F)) Variants.none c none) E (kk w_v1265) K))
          ⊢ wp frame (wpE (defs₀ (F := F)) Variants.none c none) E (segD i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27  kk) K } := by
  refine ⟨?_, ?_, fun E K kk => ?run⟩
  case run =>
    unfold segD
    simp only [k0_part100_eq_skeleton, k0_part101_eq_skeleton]
    unfold owns
    iintro ⟨⟨%f3, %hf3, H3⟩, ⟨%f17, %hf17, H17⟩, ⟨%d22, %f22, -, H22⟩, Hk⟩
    obtain rfl := harg3.eq_unread hf3
    obtain rfl := harg17.eq_unread hf17
    sl_exec
    iapply Hk
    isplitl [H3]
    · iexists _; isplitr; · ipureintro; exact harg3.read_unread _
      iexact H3
    isplitl [H17]
    · iexists _; isplitr; · ipureintro; exact harg17.read_unread _
      iexact H17
    iexists _; iexact H22

end Cert.MainIdeal.Gen

end
-- ==== Proof.RunE.lean ====
/- What the stretch after the loop stores: the gradient at the attention output. -/
module

public import proofs.«01_k».proof.Proof.Segs
public import proofs.«01_k».proof.Proof.Gen.MainIdeal.Frame

@[expose] public section

set_option maxRecDepth 65536
set_option maxHeartbeats 3200000
set_option synthInstance.maxSize 4096

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The gradient at the attention output, from the codes `x18`. -/
noncomputable def runE (c : Dev nD) (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole)
    (x3 : Vec F S1024x4096 .fp8e4m3) (x18 : Vec F S1x256x4096 .fp8e5m2) :
    { L25 : List (View.Piece (Elt F) S256x1024 .bf16) //
      ∀ (E : Set ℕ) (K : PUnit → sProp 𝕄) (kk : Prog (TpuEff nD τ sig (Elt F) Λ₀ .tc) PUnit),
        iprop(owns (c : Thread nD τ) arg3 fullShare x3 ∗ owns (c : Thread nD τ) arg18 fullShare x18 ∗ (∃ d, owns (c : Thread nD τ) arg25 fullShare d)
            ∗ (iprop(owns (c : Thread nD τ) arg3 fullShare x3 ∗ owns (c : Thread nD τ) arg18 fullShare x18 ∗ (∃ f, arg25.view.loc (c : Thread nD τ) ↦[arg25.view.set]{fullShare} arg25.view.writes (Elt F) f L25)) -∗ wp frame (wpE (defs₀ (F := F)) Variants.none c none) E kk K))
          ⊢ wp frame (wpE (defs₀ (F := F)) Variants.none c none) E (segE i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27  kk) K } := by
  refine ⟨?_, fun E K kk => ?run⟩
  case run =>
    unfold segE
    unfold owns
    iintro ⟨⟨%f3, %hf3, H3⟩, ⟨%f18, %hf18, H18⟩, ⟨%d25, %f25, -, H25⟩, Hk⟩
    obtain rfl := harg3.eq_unread hf3
    obtain rfl := harg18.eq_unread hf18
    sl_exec
    iapply Hk
    isplitl [H3]
    · iexists _; isplitr; · ipureintro; exact harg3.read_unread _
      iexact H3
    isplitl [H18]
    · iexists _; isplitr; · ipureintro; exact harg18.read_unread _
      iexact H18
    iexists _; iexact H25

end Cert.MainIdeal.Gen

end
-- ==== Proof.RunF.lean ====
/- What the sixth stretch of the main body stores: attention backward. -/
module

public import proofs.«01_k».proof.Proof.Segs
public import proofs.«01_k».proof.Proof.Gen.MainIdeal.Frame

@[expose] public section

set_option maxRecDepth 65536
set_option maxHeartbeats 3200000
set_option synthInstance.maxSize 4096

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Attention backward of the eight heads. -/
noncomputable def runF (c : Dev nD) (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole) (v104 : FVec F S256x128 .f32) (v108 : FVec F S256x128 .f32) (v338 : IVec S256x128 32)
    (x14 : Vec F S1x256x3072 .bf16) (x25 : Vec F S256x1024 .bf16) (x24 : Vec F S256x1024 .f32) (x23 : Vec F S8x256x256 .f32) :
    Σ' (L12 : List (View.Piece (Elt F) S1x8x256 .f32)), Σ' (L15 : List (View.Piece (Elt F) S1x256x1024 .bf16)), { L19 : List (View.Piece (Elt F) S1x256x3072 .fp8e5m2) //
      ∀ (E : Set ℕ) (K : PUnit → sProp 𝕄) (kk : Prog (TpuEff nD τ sig (Elt F) Λ₀ .tc) PUnit),
        iprop(owns (c : Thread nD τ) arg14 fullShare x14 ∗ owns (c : Thread nD τ) arg25 fullShare x25 ∗ owns (c : Thread nD τ) arg24 fullShare x24 ∗ owns (c : Thread nD τ) arg23 fullShare x23 ∗ (∃ d, owns (c : Thread nD τ) arg12 fullShare d) ∗ (∃ d, owns (c : Thread nD τ) arg15 fullShare d) ∗ (∃ d, owns (c : Thread nD τ) arg19 fullShare d)
            ∗ (iprop(owns (c : Thread nD τ) arg14 fullShare x14 ∗ owns (c : Thread nD τ) arg25 fullShare x25 ∗ owns (c : Thread nD τ) arg24 fullShare x24 ∗ owns (c : Thread nD τ) arg23 fullShare x23 ∗ (∃ f, arg12.view.loc (c : Thread nD τ) ↦[arg12.view.set]{fullShare} arg12.view.writes (Elt F) f L12) ∗ (∃ f, arg15.view.loc (c : Thread nD τ) ↦[arg15.view.set]{fullShare} arg15.view.writes (Elt F) f L15) ∗ (∃ f, arg19.view.loc (c : Thread nD τ) ↦[arg19.view.set]{fullShare} arg19.view.writes (Elt F) f L19)) -∗ wp frame (wpE (defs₀ (F := F)) Variants.none c none) E kk K))
          ⊢ wp frame (wpE (defs₀ (F := F)) Variants.none c none) E (segF i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v104 v108 v338 kk) K } := by
  refine ⟨?_, ?_, ?_, fun E K kk => ?run⟩
  case run =>
    unfold segF
    simp only [k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
    unfold owns
    iintro ⟨⟨%f14, %hf14, H14⟩, ⟨%f25, %hf25, H25⟩, ⟨%f24, %hf24, H24⟩, ⟨%f23, %hf23, H23⟩, ⟨%d12, %f12, -, H12⟩, ⟨%d15, %f15, -, H15⟩, ⟨%d19, %f19, -, H19⟩, Hk⟩
    obtain rfl := harg14.eq_unread hf14
    obtain rfl := harg25.eq_unread hf25
    obtain rfl := harg24.eq_unread hf24
    obtain rfl := harg23.eq_unread hf23
    sl_exec
    iapply Hk
    isplitl [H14]
    · iexists _; isplitr; · ipureintro; exact harg14.read_unread _
      iexact H14
    isplitl [H25]
    · iexists _; isplitr; · ipureintro; exact harg25.read_unread _
      iexact H25
    isplitl [H24]
    · iexists _; isplitr; · ipureintro; exact harg24.read_unread _
      iexact H24
    isplitl [H23]
    · iexists _; isplitr; · ipureintro; exact harg23.read_unread _
      iexact H23
    isplitl [H12]; · iexists _; iexact H12
    isplitl [H15]; · iexists _; iexact H15
    iexists _; iexact H19

end Cert.MainIdeal.Gen

end
-- ==== Proof.RunG.lean ====
/- What the last stretch of the main body stores: the gradient at the input. -/
module

public import proofs.«01_k».proof.Proof.Segs
public import proofs.«01_k».proof.Proof.Gen.MainIdeal.Frame

@[expose] public section

set_option maxRecDepth 65536
set_option maxHeartbeats 3200000
set_option synthInstance.maxSize 4096

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The gradient at the input, from the codes `x19`. -/
noncomputable def runG (c : Dev nD) (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole)
    (x2 : Vec F S4096x3072 .fp8e4m3) (x8 : Vec F S1x256x4096 .bf16) (x19 : Vec F S1x256x3072 .fp8e5m2) :
    { L10 : List (View.Piece (Elt F) S1x256x4096 .bf16) //
      ∀ (E : Set ℕ) (K : PUnit → sProp 𝕄),
        iprop(owns (c : Thread nD τ) arg2 fullShare x2 ∗ owns (c : Thread nD τ) arg8 fullShare x8 ∗ owns (c : Thread nD τ) arg19 fullShare x19 ∗ (∃ d, owns (c : Thread nD τ) arg10 fullShare d) ∗ (∃ d, owns (c : Thread nD τ) arg26 fullShare d) ∗ (∃ d, owns (c : Thread nD τ) arg27 fullShare d) ∗ (∃ d, owns (c : Thread nD τ) arg20 fullShare d) ∗ (∃ d, owns (c : Thread nD τ) arg21 fullShare d)
            ∗ (iprop(owns (c : Thread nD τ) arg2 fullShare x2 ∗ owns (c : Thread nD τ) arg8 fullShare x8 ∗ owns (c : Thread nD τ) arg19 fullShare x19 ∗ (∃ f, arg10.view.loc (c : Thread nD τ) ↦[arg10.view.set]{fullShare} arg10.view.writes (Elt F) f L10) ∗ (∃ d, owns (c : Thread nD τ) arg26 fullShare d) ∗ (∃ d, owns (c : Thread nD τ) arg27 fullShare d) ∗ (∃ d, owns (c : Thread nD τ) arg20 fullShare d) ∗ (∃ d, owns (c : Thread nD τ) arg21 fullShare d)) -∗ K ⟨⟩))
          ⊢ wp frame (wpE (defs₀ (F := F)) Variants.none c none) E (segG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 ) K } := by
  refine ⟨?_, fun E K => ?run⟩
  case run =>
    unfold segG
    simp only [k0_part122_eq_skeleton, k0_part123_eq_skeleton, k0_part124_eq_skeleton, k0_part125_eq_skeleton]
    unfold owns
    iintro ⟨⟨%f2, %hf2, H2⟩, ⟨%f8, %hf8, H8⟩, ⟨%f19, %hf19, H19⟩, ⟨%d10, %f10, -, H10⟩, ⟨%d26, %f26, -, H26⟩, ⟨%d27, %f27, -, H27⟩, ⟨%d20, %f20, -, H20⟩, ⟨%d21, %f21, -, H21⟩, Hk⟩
    obtain rfl := harg2.eq_unread hf2
    obtain rfl := harg8.eq_unread hf8
    obtain rfl := harg19.eq_unread hf19
    sl_exec
    sl_step
    iapply Hk
    isplitl [H2]
    · iexists _; isplitr; · ipureintro; exact harg2.read_unread _
      iexact H2
    isplitl [H8]
    · iexists _; isplitr; · ipureintro; exact harg8.read_unread _
      iexact H8
    isplitl [H19]
    · iexists _; isplitr; · ipureintro; exact harg19.read_unread _
      iexact H19
    isplitl [H10]; · iexists _; iexact H10
    isplitl [H26]
    · iexists _, _; isplitr; swap; · iexact H26
      ipureintro; rfl
    isplitl [H27]
    · iexists _, _; isplitr; swap; · iexact H27
      ipureintro; rfl
    isplitl [H20]
    · iexists _, _; isplitr; swap; · iexact H20
      ipureintro; rfl
    iexists _, _; isplitr; swap; · iexact H21
    ipureintro; rfl

end Cert.MainIdeal.Gen

end
-- ==== Proof.RunT.lean ====
/- What one trip of the loop of the main body stores. -/
module

public import proofs.«01_k».proof.Proof.Segs
public import proofs.«01_k».proof.Proof.Gen.MainIdeal.Frame

@[expose] public section

set_option maxRecDepth 65536
set_option maxHeartbeats 3200000
set_option synthInstance.maxSize 4096

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One trip of the loop over chunks of 32 rows: what it stores into the output and into the codes of its gradient, as
    pieces of their buffers; the accumulators of the two bias gradients at anything. -/
noncomputable def runT (c : Dev nD) (i : grid0.Coords) (arg1 : Memref sig .tc .vmem S1x256x4096 .bf16) (harg1 : arg1.IsWhole) (arg2 : Memref sig .tc .vmem S4096x3072 .fp8e4m3) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x64x256 .f32) (harg6 : arg6.IsWhole) (arg7 : Memref sig .tc .vmem S1x64x256 .f32) (harg7 : arg7.IsWhole) (arg8 : Memref sig .tc .vmem S1x256x4096 .bf16) (harg8 : arg8.IsWhole) (arg9 : Memref sig .tc .vmem S1x256x4096 .bf16) (harg9 : arg9.IsWhole) (arg10 : Memref sig .tc .vmem S1x256x4096 .bf16) (harg10 : arg10.IsWhole) (arg11 : Memref sig .tc .vmem S1x8x256 .f32) (harg11 : arg11.IsWhole) (arg12 : Memref sig .tc .vmem S1x8x256 .f32) (harg12 : arg12.IsWhole) (arg13 : Memref sig .tc .vmem S1x256x1024 .bf16) (harg13 : arg13.IsWhole) (arg14 : Memref sig .tc .vmem S1x256x3072 .bf16) (harg14 : arg14.IsWhole) (arg15 : Memref sig .tc .vmem S1x256x1024 .bf16) (harg15 : arg15.IsWhole) (arg16 : Memref sig .tc .vmem S1x256x4096 .fp8e4m3) (harg16 : arg16.IsWhole) (arg17 : Memref sig .tc .vmem S1x256x1024 .fp8e4m3) (harg17 : arg17.IsWhole) (arg18 : Memref sig .tc .vmem S1x256x4096 .fp8e5m2) (harg18 : arg18.IsWhole) (arg19 : Memref sig .tc .vmem S1x256x3072 .fp8e5m2) (harg19 : arg19.IsWhole) (arg20 : Memref sig .tc .vmem S1x4096 .f32) (harg20 : arg20.IsWhole) (arg21 : Memref sig .tc .vmem S1x4096 .f32) (harg21 : arg21.IsWhole) (arg22 : Memref sig .tc .vmem S256x4096 .f32) (harg22 : arg22.IsWhole) (arg23 : Memref sig .tc .vmem S8x256x256 .f32) (harg23 : arg23.IsWhole) (arg24 : Memref sig .tc .vmem S256x1024 .f32) (harg24 : arg24.IsWhole) (arg25 : Memref sig .tc .vmem S256x1024 .bf16) (harg25 : arg25.IsWhole) (arg26 : Memref sig .tc .vmem S8x4096 .f32) (harg26 : arg26.IsWhole) (arg27 : Memref sig .tc .vmem S8x4096 .f32) (harg27 : arg27.IsWhole) (v1265 : FVec F S256x512 .f32)
    (x1 : Vec F S1x256x4096 .bf16) (x4 : Vec F S1x4096 .f32) (x5 : Vec F S1x4096 .f32) (x8 : Vec F S1x256x4096 .bf16) (x22 : Vec F S256x4096 .f32) (k : Fin k0_t1_loop.trips) :
    Σ' (L9 : List (View.Piece (Elt F) S1x256x4096 .bf16)), { L18 : List (View.Piece (Elt F) S1x256x4096 .fp8e5m2) //
      ∀ (E : Set ℕ) (f9 : BufTy.Contents (Elt F) arg9.view.ty) (f18 : BufTy.Contents (Elt F) arg18.view.ty),
        (iprop(owns (c : Thread nD τ) arg1 fullShare x1 ∗ owns (c : Thread nD τ) arg4 fullShare x4 ∗ owns (c : Thread nD τ) arg5 fullShare x5 ∗ owns (c : Thread nD τ) arg8 fullShare x8 ∗ owns (c : Thread nD τ) arg22 fullShare x22 ∗ (arg9.view.loc (c : Thread nD τ) ↦[arg9.view.set]{fullShare} f9) ∗ (arg18.view.loc (c : Thread nD τ) ↦[arg18.view.set]{fullShare} f18) ∗ (∃ d, owns (c : Thread nD τ) arg26 fullShare d) ∗ (∃ d, owns (c : Thread nD τ) arg27 fullShare d)) : sProp 𝕄)
          ⊢ wp frame (wpE (defs₀ (F := F)) Variants.none c none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1265 k PUnit.unit)
            (fun _ => iprop(owns (c : Thread nD τ) arg1 fullShare x1 ∗ owns (c : Thread nD τ) arg4 fullShare x4 ∗ owns (c : Thread nD τ) arg5 fullShare x5 ∗ owns (c : Thread nD τ) arg8 fullShare x8 ∗ owns (c : Thread nD τ) arg22 fullShare x22 ∗ (arg9.view.loc (c : Thread nD τ) ↦[arg9.view.set]{fullShare} arg9.view.writes (Elt F) f9 L9) ∗ (arg18.view.loc (c : Thread nD τ) ↦[arg18.view.set]{fullShare} arg18.view.writes (Elt F) f18 L18) ∗ (∃ d, owns (c : Thread nD τ) arg26 fullShare d) ∗ (∃ d, owns (c : Thread nD τ) arg27 fullShare d))) } := by
  have hk : k.val < 8 := Nat.lt_of_lt_of_le k.isLt k0_t1_abs.2.1
  refine ⟨?_, ?_, fun E f9 f18 => ?run⟩
  case run =>
    unfold k0_t1_body owns
    iintro ⟨⟨%f1, %hf1, H1⟩, ⟨%f4, %hf4, H4⟩, ⟨%f5, %hf5, H5⟩, ⟨%f8, %hf8, H8⟩, ⟨%f22, %hf22, H22⟩, H9, H18, ⟨%d26, %f26, -, H26⟩, ⟨%d27, %f27, -, H27⟩⟩
    obtain rfl := harg1.eq_unread hf1
    obtain rfl := harg4.eq_unread hf4
    obtain rfl := harg5.eq_unread hf5
    obtain rfl := harg8.eq_unread hf8
    obtain rfl := harg22.eq_unread hf22
    sl_exec
    sl_step
    isplitl [H1]
    · iexists _; isplitr; · ipureintro; exact harg1.read_unread _
      iexact H1
    isplitl [H4]
    · iexists _; isplitr; · ipureintro; exact harg4.read_unread _
      iexact H4
    isplitl [H5]
    · iexists _; isplitr; · ipureintro; exact harg5.read_unread _
      iexact H5
    isplitl [H8]
    · iexists _; isplitr; · ipureintro; exact harg8.read_unread _
      iexact H8
    isplitl [H22]
    · iexists _; isplitr; · ipureintro; exact harg22.read_unread _
      iexact H22
    isplitl [H9]; · iexact H9
    isplitl [H18]; · iexact H18
    isplitl [H26]
    · iexists _, _; isplitr; swap; · iexact H26
      ipureintro; rfl
    iexists _, _; isplitr; swap; · iexact H27
    ipureintro; rfl

end Cert.MainIdeal.Gen

end
-- ==== Proof.Body.lean ====
/- The body of the main call, stretch by stretch: what it leaves in seven of its results. -/
module

public import proofs.«01_k».proof.Proof.Whole
public import proofs.«01_k».proof.Proof.RunA
public import proofs.«01_k».proof.Proof.RunB
public import proofs.«01_k».proof.Proof.RunC
public import proofs.«01_k».proof.Proof.RunD
public import proofs.«01_k».proof.Proof.RunE
public import proofs.«01_k».proof.Proof.RunF
public import proofs.«01_k».proof.Proof.RunG
public import proofs.«01_k».proof.Proof.RunT

@[expose] public section

set_option maxRecDepth 65536
set_option maxHeartbeats 3200000
set_option synthInstance.maxSize 4096

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The memrefs the body is called on: the windows and the scratch buffers, each a whole buffer. -/
structure Mems where
  arg1 : Memref sig .tc .vmem S1x256x4096 .bf16
  harg1 : arg1.IsWhole
  arg2 : Memref sig .tc .vmem S4096x3072 .fp8e4m3
  harg2 : arg2.IsWhole
  arg3 : Memref sig .tc .vmem S1024x4096 .fp8e4m3
  harg3 : arg3.IsWhole
  arg4 : Memref sig .tc .vmem S1x4096 .f32
  harg4 : arg4.IsWhole
  arg5 : Memref sig .tc .vmem S1x4096 .f32
  harg5 : arg5.IsWhole
  arg6 : Memref sig .tc .vmem S1x64x256 .f32
  harg6 : arg6.IsWhole
  arg7 : Memref sig .tc .vmem S1x64x256 .f32
  harg7 : arg7.IsWhole
  arg8 : Memref sig .tc .vmem S1x256x4096 .bf16
  harg8 : arg8.IsWhole
  arg9 : Memref sig .tc .vmem S1x256x4096 .bf16
  harg9 : arg9.IsWhole
  arg10 : Memref sig .tc .vmem S1x256x4096 .bf16
  harg10 : arg10.IsWhole
  arg11 : Memref sig .tc .vmem S1x8x256 .f32
  harg11 : arg11.IsWhole
  arg12 : Memref sig .tc .vmem S1x8x256 .f32
  harg12 : arg12.IsWhole
  arg13 : Memref sig .tc .vmem S1x256x1024 .bf16
  harg13 : arg13.IsWhole
  arg14 : Memref sig .tc .vmem S1x256x3072 .bf16
  harg14 : arg14.IsWhole
  arg15 : Memref sig .tc .vmem S1x256x1024 .bf16
  harg15 : arg15.IsWhole
  arg16 : Memref sig .tc .vmem S1x256x4096 .fp8e4m3
  harg16 : arg16.IsWhole
  arg17 : Memref sig .tc .vmem S1x256x1024 .fp8e4m3
  harg17 : arg17.IsWhole
  arg18 : Memref sig .tc .vmem S1x256x4096 .fp8e5m2
  harg18 : arg18.IsWhole
  arg19 : Memref sig .tc .vmem S1x256x3072 .fp8e5m2
  harg19 : arg19.IsWhole
  arg20 : Memref sig .tc .vmem S1x4096 .f32
  harg20 : arg20.IsWhole
  arg21 : Memref sig .tc .vmem S1x4096 .f32
  harg21 : arg21.IsWhole
  arg22 : Memref sig .tc .vmem S256x4096 .f32
  harg22 : arg22.IsWhole
  arg23 : Memref sig .tc .vmem S8x256x256 .f32
  harg23 : arg23.IsWhole
  arg24 : Memref sig .tc .vmem S256x1024 .f32
  harg24 : arg24.IsWhole
  arg25 : Memref sig .tc .vmem S256x1024 .bf16
  harg25 : arg25.IsWhole
  arg26 : Memref sig .tc .vmem S8x4096 .f32
  harg26 : arg26.IsWhole
  arg27 : Memref sig .tc .vmem S8x4096 .f32
  harg27 : arg27.IsWhole

/-- A buffer whose stored pieces cover it holds what the pieces say. -/
theorem owns_canon {c : Dev nD} {S : Shape} {e : EltTy} (A : Memref sig .tc .vmem S e) {L : List (View.Piece (Elt F) S e)}
    (h : ∀ y, ∃ p ∈ L, y ∈ p.1.set) :
    (iprop(∃ f, A.view.loc (c : Thread nD τ) ↦[A.view.set]{fullShare} A.view.writes (Elt F) f L) : sProp 𝕄)
      ⊢ owns (c : Thread nD τ) A fullShare (View.canon L) := by
  unfold owns
  iintro ⟨%f, H⟩
  iexists _; isplitr; swap; · iexact H
  ipureintro; exact View.read_writes_eq_canon _ _ _ h

/-- A buffer something was stored into holds something. -/
theorem owns_some {c : Dev nD} {S : Shape} {e : EltTy} (A : Memref sig .tc .vmem S e) {L : List (View.Piece (Elt F) S e)} :
    (iprop(∃ f, A.view.loc (c : Thread nD τ) ↦[A.view.set]{fullShare} A.view.writes (Elt F) f L) : sProp 𝕄)
      ⊢ iprop(∃ d, owns (c : Thread nD τ) A fullShare d) := by
  unfold owns
  iintro ⟨%f, H⟩
  iexists _, _; isplitr; swap; · iexact H
  ipureintro; rfl

variable (c : Dev nD) (i : grid0.Coords) (M : Mems)

/-- The scale of the input, and what the five stretches before the loop store, over the buffers they read. -/
def w100 (x1 : Vec F S1x256x4096 .bf16) (x6 : Vec F S1x64x256 .f32) := (runA c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x1 x6).1
/-- The pieces of the codes of the input. -/
def L16 (x1 : Vec F S1x256x4096 .bf16) (x6 : Vec F S1x64x256 .f32) : List (View.Piece (Elt F) S1x256x4096 .fp8e4m3) := (runA c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x1 x6).2.1
/-- The codes of the input. -/
def cod16 (x1 : Vec F S1x256x4096 .bf16) (x6 : Vec F S1x64x256 .f32) : Vec F S1x256x4096 .fp8e4m3 := View.canon (L16 c i M x1 x6)

/-- The pieces of the rotated projections, from the codes of the input. -/
def L14 (x1 : Vec F S1x256x4096 .bf16) (x6 : Vec F S1x64x256 .f32) (x2 : Vec F S4096x3072 .fp8e4m3) (x7 : Vec F S1x64x256 .f32) : List (View.Piece (Elt F) S1x256x3072 .bf16) :=
  (runB c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 (w100 c i M x1 x6) x2 x7 (cod16 c i M x1 x6)).2.2.1
/-- The rotated projections. -/
def qkv14 (x1 : Vec F S1x256x4096 .bf16) (x6 : Vec F S1x64x256 .f32) (x2 : Vec F S4096x3072 .fp8e4m3) (x7 : Vec F S1x64x256 .f32) : Vec F S1x256x3072 .bf16 := View.canon (L14 c i M x1 x6 x2 x7)

/-- The pieces of the log-sum-exps, of the attention output and of its codes, from the rotated projections `x14`. -/
def L11 (x14 : Vec F S1x256x3072 .bf16) : List (View.Piece (Elt F) S1x8x256 .f32) := (runC c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x14).1
def L13 (x14 : Vec F S1x256x3072 .bf16) : List (View.Piece (Elt F) S1x256x1024 .bf16) := (runC c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x14).2.1
def L17 (x14 : Vec F S1x256x3072 .bf16) : List (View.Piece (Elt F) S1x256x1024 .fp8e4m3) := (runC c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x14).2.2.1

/-- The scale of the output projection, and the pieces of its buffer, from the codes `x17`. -/
def w1265 (x3 : Vec F S1024x4096 .fp8e4m3) (x17 : Vec F S1x256x1024 .fp8e4m3) := (runD c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x3 x17).1
def L22 (x3 : Vec F S1024x4096 .fp8e4m3) (x17 : Vec F S1x256x1024 .fp8e4m3) : List (View.Piece (Elt F) S256x4096 .f32) := (runD c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x3 x17).2.1

/-- The pieces of the output and of its gradient's codes after `n` chunks of 32 rows, the last chunk first. -/
def L9 (v : FVec F S256x512 .f32) (x1 : Vec F S1x256x4096 .bf16) (x4 : Vec F S1x4096 .f32) (x5 : Vec F S1x4096 .f32) (x8 : Vec F S1x256x4096 .bf16) (x22 : Vec F S256x4096 .f32) : ℕ → List (View.Piece (Elt F) S1x256x4096 .bf16)
  | 0 => []
  | n + 1 => if h : n < k0_t1_loop.trips then (runT c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v x1 x4 x5 x8 x22 ⟨n, h⟩).1 ++ L9 v x1 x4 x5 x8 x22 n else []
def L18 (v : FVec F S256x512 .f32) (x1 : Vec F S1x256x4096 .bf16) (x4 : Vec F S1x4096 .f32) (x5 : Vec F S1x4096 .f32) (x8 : Vec F S1x256x4096 .bf16) (x22 : Vec F S256x4096 .f32) : ℕ → List (View.Piece (Elt F) S1x256x4096 .fp8e5m2)
  | 0 => []
  | n + 1 => if h : n < k0_t1_loop.trips then (runT c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v x1 x4 x5 x8 x22 ⟨n, h⟩).2.1 ++ L18 v x1 x4 x5 x8 x22 n else []

/- The pieces cover their buffers. -/
theorem cover16 (x1 : Vec F S1x256x4096 .bf16) (x6 : Vec F S1x64x256 .f32) (y : S1x256x4096.Idx) : ∃ p ∈ L16 c i M x1 x6, y ∈ p.1.set :=
  View.cover_of_tiledL (L16 c i M x1 x6) ![1, 256, 512] (by sl_kernel_rfl) y

theorem cover14 (x1 : Vec F S1x256x4096 .bf16) (x6 : Vec F S1x64x256 .f32) (x2 : Vec F S4096x3072 .fp8e4m3) (x7 : Vec F S1x64x256 .f32) (y : S1x256x3072.Idx) : ∃ p ∈ L14 c i M x1 x6 x2 x7, y ∈ p.1.set :=
  View.cover_of_tiledL (L14 c i M x1 x6 x2 x7) ![1, 256, 128] (by sl_kernel_rfl) y

theorem cover11 (x14 : Vec F S1x256x3072 .bf16) (y : S1x8x256.Idx) : ∃ p ∈ L11 c i M x14, y ∈ p.1.set :=
  View.cover_of_tiledL (L11 c i M x14) ![1, 8, 256] (by sl_kernel_rfl) y

theorem cover13 (x14 : Vec F S1x256x3072 .bf16) (y : S1x256x1024.Idx) : ∃ p ∈ L13 c i M x14, y ∈ p.1.set :=
  View.cover_of_tiledL (L13 c i M x14) ![1, 128, 128] (by sl_kernel_rfl) y

theorem cover17 (x14 : Vec F S1x256x3072 .bf16) (y : S1x256x1024.Idx) : ∃ p ∈ L17 c i M x14, y ∈ p.1.set :=
  View.cover_of_tiledL (L17 c i M x14) ![1, 128, 128] (by sl_kernel_rfl) y

theorem cover22 (x3 : Vec F S1024x4096 .fp8e4m3) (x17 : Vec F S1x256x1024 .fp8e4m3) (y : S256x4096.Idx) : ∃ p ∈ L22 c i M x3 x17, y ∈ p.1.set :=
  View.cover_of_tiledL (L22 c i M x3 x17) ![256, 512] (by sl_kernel_rfl) y

theorem cover9 (v : FVec F S256x512 .f32) (x1 : Vec F S1x256x4096 .bf16) (x4 : Vec F S1x4096 .f32) (x5 : Vec F S1x4096 .f32) (x8 : Vec F S1x256x4096 .bf16) (x22 : Vec F S256x4096 .f32) (y : S1x256x4096.Idx) : ∃ p ∈ L9 c i M v x1 x4 x5 x8 x22 8, y ∈ p.1.set :=
  View.cover_of_tiledL (L9 c i M v x1 x4 x5 x8 x22 8) ![1, 32, 128] (by sl_kernel_rfl) y

theorem cover18 (v : FVec F S256x512 .f32) (x1 : Vec F S1x256x4096 .bf16) (x4 : Vec F S1x4096 .f32) (x5 : Vec F S1x4096 .f32) (x8 : Vec F S1x256x4096 .bf16) (x22 : Vec F S256x4096 .f32) (y : S1x256x4096.Idx) : ∃ p ∈ L18 c i M v x1 x4 x5 x8 x22 8, y ∈ p.1.set :=
  View.cover_of_tiledL (L18 c i M v x1 x4 x5 x8 x22 8) ![1, 32, 128] (by sl_kernel_rfl) y

/-- The first stretch leaves the codes of the input. -/
theorem stepA  (x1 : Vec F S1x256x4096 .bf16) (x6 : Vec F S1x64x256 .f32) (E : Set ℕ) (K : PUnit → sProp 𝕄) (kk : BitVec 32 → FVec F S64x256 .f32 → Prog (TpuEff nD τ sig (Elt F) Λ₀ .tc) PUnit) :
    iprop(owns (c : Thread nD τ) M.arg1 fullShare x1 ∗ owns (c : Thread nD τ) M.arg6 fullShare x6 ∗ (∃ d, owns (c : Thread nD τ) M.arg16 fullShare d) ∗ (∃ d, owns (c : Thread nD τ) M.arg26 fullShare d) ∗ (∃ d, owns (c : Thread nD τ) M.arg27 fullShare d)
        ∗ (iprop(owns (c : Thread nD τ) M.arg1 fullShare x1 ∗ owns (c : Thread nD τ) M.arg6 fullShare x6 ∗ owns (c : Thread nD τ) M.arg16 fullShare (cod16 c i M x1 x6) ∗ (∃ d, owns (c : Thread nD τ) M.arg26 fullShare d) ∗ (∃ d, owns (c : Thread nD τ) M.arg27 fullShare d)) -∗ wp frame (wpE (defs₀ (F := F)) Variants.none c none) E (kk (BitVec.ofNat 32 (i 0).val) (w100 c i M x1 x6)) K))
      ⊢ wp frame (wpE (defs₀ (F := F)) Variants.none c none) E (segA i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27  kk) K := by
  iintro ⟨H1, H6, H16, H26, H27, Hk⟩
  iapply (((runA c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x1 x6).2.2) E K kk)
  isplitl [H1]; · iexact H1
  isplitl [H6]; · iexact H6
  isplitl [H16]; · iexact H16
  isplitl [H26]; · iexact H26
  isplitl [H27]; · iexact H27
  iintro ⟨H1, H6, H16, H26, H27⟩
  iapply Hk
  isplitl [H1]; · iexact H1
  isplitl [H6]; · iexact H6
  isplitl [H16]; · iapply (owns_canon M.arg16 (cover16 c i M x1 x6)); iexact H16
  isplitl [H26]; · iexact H26
  iexact H27

/-- The second stretch leaves the rotated projections. -/
theorem stepB (x1 : Vec F S1x256x4096 .bf16) (x6 : Vec F S1x64x256 .f32) (x2 : Vec F S4096x3072 .fp8e4m3) (x7 : Vec F S1x64x256 .f32) (E : Set ℕ) (K : PUnit → sProp 𝕄) (kk : FVec F S256x128 .f32 → FVec F S256x128 .f32 → Prog (TpuEff nD τ sig (Elt F) Λ₀ .tc) PUnit) :
    iprop(owns (c : Thread nD τ) M.arg2 fullShare x2 ∗ owns (c : Thread nD τ) M.arg7 fullShare x7 ∗ owns (c : Thread nD τ) M.arg16 fullShare (cod16 c i M x1 x6) ∗ (∃ d, owns (c : Thread nD τ) M.arg14 fullShare d)
        ∗ (iprop(owns (c : Thread nD τ) M.arg2 fullShare x2 ∗ owns (c : Thread nD τ) M.arg7 fullShare x7 ∗ owns (c : Thread nD τ) M.arg16 fullShare (cod16 c i M x1 x6) ∗ owns (c : Thread nD τ) M.arg14 fullShare (qkv14 c i M x1 x6 x2 x7)) -∗ wp frame (wpE (defs₀ (F := F)) Variants.none c none) E (kk (runB c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 (w100 c i M x1 x6) x2 x7 (cod16 c i M x1 x6)).1 (runB c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 (w100 c i M x1 x6) x2 x7 (cod16 c i M x1 x6)).2.1) K))
      ⊢ wp frame (wpE (defs₀ (F := F)) Variants.none c none) E (segB i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 (w100 c i M x1 x6) kk) K := by
  iintro ⟨H2, H7, H16, H14, Hk⟩
  iapply ((runB c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 (w100 c i M x1 x6) x2 x7 (cod16 c i M x1 x6)).2.2.2 E K kk)
  isplitl [H2]; · iexact H2
  isplitl [H7]; · iexact H7
  isplitl [H16]; · iexact H16
  isplitl [H14]; · iexact H14
  iintro ⟨H2, H7, H16, H14⟩
  iapply Hk
  isplitl [H2]; · iexact H2
  isplitl [H7]; · iexact H7
  isplitl [H16]; · iexact H16
  iapply (owns_canon M.arg14 (cover14 c i M x1 x6 x2 x7)); iexact H14

/-- The third stretch leaves attention forward. -/
theorem stepC  (x14 : Vec F S1x256x3072 .bf16) (E : Set ℕ) (K : PUnit → sProp 𝕄) (kk : IVec S256x128 32 → Prog (TpuEff nD τ sig (Elt F) Λ₀ .tc) PUnit) :
    iprop(owns (c : Thread nD τ) M.arg14 fullShare x14 ∗ (∃ d, owns (c : Thread nD τ) M.arg11 fullShare d) ∗ (∃ d, owns (c : Thread nD τ) M.arg13 fullShare d) ∗ (∃ d, owns (c : Thread nD τ) M.arg17 fullShare d) ∗ (∃ d, owns (c : Thread nD τ) M.arg24 fullShare d) ∗ (∃ d, owns (c : Thread nD τ) M.arg23 fullShare d)
        ∗ (iprop(owns (c : Thread nD τ) M.arg14 fullShare x14 ∗ owns (c : Thread nD τ) M.arg11 fullShare (View.canon (L11 c i M x14)) ∗ owns (c : Thread nD τ) M.arg13 fullShare (View.canon (L13 c i M x14)) ∗ owns (c : Thread nD τ) M.arg17 fullShare (View.canon (L17 c i M x14)) ∗ (∃ d, owns (c : Thread nD τ) M.arg24 fullShare d) ∗ (∃ d, owns (c : Thread nD τ) M.arg23 fullShare d)) -∗ wp frame (wpE (defs₀ (F := F)) Variants.none c none) E (kk (iota .tc S256x128 32 [1] iota_S256x128_d1_w32)) K))
      ⊢ wp frame (wpE (defs₀ (F := F)) Variants.none c none) E (segC i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27  kk) K := by
  iintro ⟨H14, H11, H13, H17, H24, H23, Hk⟩
  iapply (((runC c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x14).2.2.2.2.2) E K kk)
  isplitl [H14]; · iexact H14
  isplitl [H11]; · iexact H11
  isplitl [H13]; · iexact H13
  isplitl [H17]; · iexact H17
  isplitl [H24]; · iexact H24
  isplitl [H23]; · iexact H23
  iintro ⟨H14, H11, H13, H17, H24, H23⟩
  iapply Hk
  isplitl [H14]; · iexact H14
  isplitl [H11]; · iapply (owns_canon M.arg11 (cover11 c i M x14)); iexact H11
  isplitl [H13]; · iapply (owns_canon M.arg13 (cover13 c i M x14)); iexact H13
  isplitl [H17]; · iapply (owns_canon M.arg17 (cover17 c i M x14)); iexact H17
  isplitl [H24]; · iapply (owns_some M.arg24); iexact H24
  iapply (owns_some M.arg23); iexact H23

/-- The fourth stretch leaves the output projection. -/
theorem stepD  (x3 : Vec F S1024x4096 .fp8e4m3) (x17 : Vec F S1x256x1024 .fp8e4m3) (E : Set ℕ) (K : PUnit → sProp 𝕄) (kk : FVec F S256x512 .f32 → Prog (TpuEff nD τ sig (Elt F) Λ₀ .tc) PUnit) :
    iprop(owns (c : Thread nD τ) M.arg3 fullShare x3 ∗ owns (c : Thread nD τ) M.arg17 fullShare x17 ∗ (∃ d, owns (c : Thread nD τ) M.arg22 fullShare d)
        ∗ (iprop(owns (c : Thread nD τ) M.arg3 fullShare x3 ∗ owns (c : Thread nD τ) M.arg17 fullShare x17 ∗ owns (c : Thread nD τ) M.arg22 fullShare (View.canon (L22 c i M x3 x17))) -∗ wp frame (wpE (defs₀ (F := F)) Variants.none c none) E (kk (w1265 c i M x3 x17)) K))
      ⊢ wp frame (wpE (defs₀ (F := F)) Variants.none c none) E (segD i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27  kk) K := by
  iintro ⟨H3, H17, H22, Hk⟩
  iapply (((runD c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x3 x17).2.2) E K kk)
  isplitl [H3]; · iexact H3
  isplitl [H17]; · iexact H17
  isplitl [H22]; · iexact H22
  iintro ⟨H3, H17, H22⟩
  iapply Hk
  isplitl [H3]; · iexact H3
  isplitl [H17]; · iexact H17
  iapply (owns_canon M.arg22 (cover22 c i M x3 x17)); iexact H22

/-- The stretch after the loop. -/
theorem stepE  (x3 : Vec F S1024x4096 .fp8e4m3) (x18 : Vec F S1x256x4096 .fp8e5m2) (E : Set ℕ) (K : PUnit → sProp 𝕄) (kk : Prog (TpuEff nD τ sig (Elt F) Λ₀ .tc) PUnit) :
    iprop(owns (c : Thread nD τ) M.arg3 fullShare x3 ∗ owns (c : Thread nD τ) M.arg18 fullShare x18 ∗ (∃ d, owns (c : Thread nD τ) M.arg25 fullShare d)
        ∗ (iprop(owns (c : Thread nD τ) M.arg3 fullShare x3 ∗ owns (c : Thread nD τ) M.arg18 fullShare x18 ∗ (∃ d, owns (c : Thread nD τ) M.arg25 fullShare d)) -∗ wp frame (wpE (defs₀ (F := F)) Variants.none c none) E kk K))
      ⊢ wp frame (wpE (defs₀ (F := F)) Variants.none c none) E (segE i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27  kk) K := by
  iintro ⟨H3, H18, H25, Hk⟩
  iapply (((runE c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x3 x18).2) E K kk)
  isplitl [H3]; · iexact H3
  isplitl [H18]; · iexact H18
  isplitl [H25]; · iexact H25
  iintro ⟨H3, H18, H25⟩
  iapply Hk
  isplitl [H3]; · iexact H3
  isplitl [H18]; · iexact H18
  iapply (owns_some M.arg25); iexact H25

/-- Attention backward. -/
theorem stepF (v104 : FVec F S256x128 .f32) (v108 : FVec F S256x128 .f32) (v338 : IVec S256x128 32) (x14 : Vec F S1x256x3072 .bf16) (x25 : Vec F S256x1024 .bf16) (x24 : Vec F S256x1024 .f32) (x23 : Vec F S8x256x256 .f32) (E : Set ℕ) (K : PUnit → sProp 𝕄) (kk : Prog (TpuEff nD τ sig (Elt F) Λ₀ .tc) PUnit) :
    iprop(owns (c : Thread nD τ) M.arg14 fullShare x14 ∗ owns (c : Thread nD τ) M.arg25 fullShare x25 ∗ owns (c : Thread nD τ) M.arg24 fullShare x24 ∗ owns (c : Thread nD τ) M.arg23 fullShare x23 ∗ (∃ d, owns (c : Thread nD τ) M.arg12 fullShare d) ∗ (∃ d, owns (c : Thread nD τ) M.arg15 fullShare d) ∗ (∃ d, owns (c : Thread nD τ) M.arg19 fullShare d)
        ∗ (iprop(owns (c : Thread nD τ) M.arg14 fullShare x14 ∗ owns (c : Thread nD τ) M.arg25 fullShare x25 ∗ owns (c : Thread nD τ) M.arg24 fullShare x24 ∗ owns (c : Thread nD τ) M.arg23 fullShare x23 ∗ (∃ d, owns (c : Thread nD τ) M.arg12 fullShare d) ∗ (∃ d, owns (c : Thread nD τ) M.arg15 fullShare d) ∗ (∃ d, owns (c : Thread nD τ) M.arg19 fullShare d)) -∗ wp frame (wpE (defs₀ (F := F)) Variants.none c none) E kk K))
      ⊢ wp frame (wpE (defs₀ (F := F)) Variants.none c none) E (segF i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v104 v108 v338 kk) K := by
  iintro ⟨H14, H25, H24, H23, H12, H15, H19, Hk⟩
  iapply (((runF c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v104 v108 v338 x14 x25 x24 x23).2.2.2) E K kk)
  isplitl [H14]; · iexact H14
  isplitl [H25]; · iexact H25
  isplitl [H24]; · iexact H24
  isplitl [H23]; · iexact H23
  isplitl [H12]; · iexact H12
  isplitl [H15]; · iexact H15
  isplitl [H19]; · iexact H19
  iintro ⟨H14, H25, H24, H23, H12, H15, H19⟩
  iapply Hk
  isplitl [H14]; · iexact H14
  isplitl [H25]; · iexact H25
  isplitl [H24]; · iexact H24
  isplitl [H23]; · iexact H23
  isplitl [H12]; · iapply (owns_some M.arg12); iexact H12
  isplitl [H15]; · iapply (owns_some M.arg15); iexact H15
  iapply (owns_some M.arg19); iexact H19

/-- The last stretch. -/
theorem stepG  (x2 : Vec F S4096x3072 .fp8e4m3) (x8 : Vec F S1x256x4096 .bf16) (x19 : Vec F S1x256x3072 .fp8e5m2) (E : Set ℕ) (K : PUnit → sProp 𝕄) :
    iprop(owns (c : Thread nD τ) M.arg2 fullShare x2 ∗ owns (c : Thread nD τ) M.arg8 fullShare x8 ∗ owns (c : Thread nD τ) M.arg19 fullShare x19 ∗ (∃ d, owns (c : Thread nD τ) M.arg10 fullShare d) ∗ (∃ d, owns (c : Thread nD τ) M.arg26 fullShare d) ∗ (∃ d, owns (c : Thread nD τ) M.arg27 fullShare d) ∗ (∃ d, owns (c : Thread nD τ) M.arg20 fullShare d) ∗ (∃ d, owns (c : Thread nD τ) M.arg21 fullShare d)
        ∗ (iprop(owns (c : Thread nD τ) M.arg2 fullShare x2 ∗ owns (c : Thread nD τ) M.arg8 fullShare x8 ∗ owns (c : Thread nD τ) M.arg19 fullShare x19 ∗ (∃ d, owns (c : Thread nD τ) M.arg10 fullShare d) ∗ (∃ d, owns (c : Thread nD τ) M.arg26 fullShare d) ∗ (∃ d, owns (c : Thread nD τ) M.arg27 fullShare d) ∗ (∃ d, owns (c : Thread nD τ) M.arg20 fullShare d) ∗ (∃ d, owns (c : Thread nD τ) M.arg21 fullShare d)) -∗ K ⟨⟩))
      ⊢ wp frame (wpE (defs₀ (F := F)) Variants.none c none) E (segG i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 ) K := by
  iintro ⟨H2, H8, H19, H10, H26, H27, H20, H21, Hk⟩
  iapply (((runG c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 x2 x8 x19).2) E K)
  isplitl [H2]; · iexact H2
  isplitl [H8]; · iexact H8
  isplitl [H19]; · iexact H19
  isplitl [H10]; · iexact H10
  isplitl [H26]; · iexact H26
  isplitl [H27]; · iexact H27
  isplitl [H20]; · iexact H20
  isplitl [H21]; · iexact H21
  iintro ⟨H2, H8, H19, H10, H26, H27, H20, H21⟩
  iapply Hk
  isplitl [H2]; · iexact H2
  isplitl [H8]; · iexact H8
  isplitl [H19]; · iexact H19
  isplitl [H10]; · iapply (owns_some M.arg10); iexact H10
  isplitl [H26]; · iexact H26
  isplitl [H27]; · iexact H27
  isplitl [H20]; · iexact H20
  iexact H21

/-- What the loop keeps, after `n` chunks. -/
def loopI (v : FVec F S256x512 .f32) (x1 : Vec F S1x256x4096 .bf16) (x4 : Vec F S1x4096 .f32) (x5 : Vec F S1x4096 .f32) (x8 : Vec F S1x256x4096 .bf16) (x22 : Vec F S256x4096 .f32) (n : ℕ) : sProp 𝕄 :=
  iprop(owns (c : Thread nD τ) M.arg1 fullShare x1 ∗ owns (c : Thread nD τ) M.arg4 fullShare x4 ∗ owns (c : Thread nD τ) M.arg5 fullShare x5 ∗ owns (c : Thread nD τ) M.arg8 fullShare x8 ∗ owns (c : Thread nD τ) M.arg22 fullShare x22 ∗ (∃ f, M.arg9.view.loc (c : Thread nD τ) ↦[M.arg9.view.set]{fullShare} M.arg9.view.writes (Elt F) f (L9 c i M v x1 x4 x5 x8 x22 n)) ∗ (∃ f, M.arg18.view.loc (c : Thread nD τ) ↦[M.arg18.view.set]{fullShare} M.arg18.view.writes (Elt F) f (L18 c i M v x1 x4 x5 x8 x22 n)) ∗ (∃ d, owns (c : Thread nD τ) M.arg26 fullShare d) ∗ (∃ d, owns (c : Thread nD τ) M.arg27 fullShare d))

theorem loopI_step (v : FVec F S256x512 .f32) (x1 : Vec F S1x256x4096 .bf16) (x4 : Vec F S1x4096 .f32) (x5 : Vec F S1x4096 .f32) (x8 : Vec F S1x256x4096 .bf16) (x22 : Vec F S256x4096 .f32) (E : Set ℕ) (k : Fin k0_t1_loop.trips) (acc : PUnit) :
    loopI c i M v x1 x4 x5 x8 x22 k.val ⊢ wp frame (wpE (defs₀ (F := F)) Variants.none c none) E (k0_t1_body (F := F) i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v k acc) (fun _ => loopI c i M v x1 x4 x5 x8 x22 (k.val + 1)) := by
  obtain rfl : acc = PUnit.unit := rfl
  have e9 : L9 c i M v x1 x4 x5 x8 x22 (k.val + 1) = (runT c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v x1 x4 x5 x8 x22 k).1 ++ L9 c i M v x1 x4 x5 x8 x22 k.val := by
    show (if h : k.val < k0_t1_loop.trips then _ else _) = _
    rw [dif_pos k.isLt]
  have e18 : L18 c i M v x1 x4 x5 x8 x22 (k.val + 1) = (runT c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v x1 x4 x5 x8 x22 k).2.1 ++ L18 c i M v x1 x4 x5 x8 x22 k.val := by
    show (if h : k.val < k0_t1_loop.trips then _ else _) = _
    rw [dif_pos k.isLt]
  unfold loopI
  rw [e9, e18]
  iintro ⟨H1, H4, H5, H8, H22, ⟨%f9, H9⟩, ⟨%f18, H18⟩, H26, H27⟩
  iapply (wp_wand_r frame (wpE (defs₀ (F := F)) Variants.none c none) E)
  isplitl [H1 H4 H5 H8 H22 H9 H18 H26 H27]
  · iapply ((runT c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v x1 x4 x5 x8 x22 k).2.2 E (M.arg9.view.writes (Elt F) f9 (L9 c i M v x1 x4 x5 x8 x22 k.val)) (M.arg18.view.writes (Elt F) f18 (L18 c i M v x1 x4 x5 x8 x22 k.val)))

    isplitl [H1]; · iexact H1
    isplitl [H4]; · iexact H4
    isplitl [H5]; · iexact H5
    isplitl [H8]; · iexact H8
    isplitl [H22]; · iexact H22
    isplitl [H9]; · iexact H9
    isplitl [H18]; · iexact H18
    isplitl [H26]; · iexact H26
    iexact H27
  · iintro %_ ⟨H1, H4, H5, H8, H22, H9, H18, H26, H27⟩
    rw [← View.writes_append, ← View.writes_append]
    isplitl [H1]; · iexact H1
    isplitl [H4]; · iexact H4
    isplitl [H5]; · iexact H5
    isplitl [H8]; · iexact H8
    isplitl [H22]; · iexact H22
    isplitl [H9]; · iexists f9; iexact H9
    isplitl [H18]; · iexists f18; iexact H18
    isplitl [H26]; · iexact H26
    iexact H27

/-- The loop leaves the output and its gradient's codes. -/
theorem stepL (v : FVec F S256x512 .f32) (x1 : Vec F S1x256x4096 .bf16) (x4 : Vec F S1x4096 .f32) (x5 : Vec F S1x4096 .f32) (x8 : Vec F S1x256x4096 .bf16) (x22 : Vec F S256x4096 .f32) (E : Set ℕ) (K : PUnit → sProp 𝕄) (kk : PUnit → Prog (TpuEff nD τ sig (Elt F) Λ₀ .tc) PUnit) :
    iprop(owns (c : Thread nD τ) M.arg1 fullShare x1 ∗ owns (c : Thread nD τ) M.arg4 fullShare x4 ∗ owns (c : Thread nD τ) M.arg5 fullShare x5 ∗ owns (c : Thread nD τ) M.arg8 fullShare x8 ∗ owns (c : Thread nD τ) M.arg22 fullShare x22 ∗ (∃ d, owns (c : Thread nD τ) M.arg9 fullShare d) ∗ (∃ d, owns (c : Thread nD τ) M.arg18 fullShare d) ∗ (∃ d, owns (c : Thread nD τ) M.arg26 fullShare d) ∗ (∃ d, owns (c : Thread nD τ) M.arg27 fullShare d)
        ∗ (iprop(owns (c : Thread nD τ) M.arg1 fullShare x1 ∗ owns (c : Thread nD τ) M.arg4 fullShare x4 ∗ owns (c : Thread nD τ) M.arg5 fullShare x5 ∗ owns (c : Thread nD τ) M.arg8 fullShare x8 ∗ owns (c : Thread nD τ) M.arg22 fullShare x22 ∗ owns (c : Thread nD τ) M.arg9 fullShare (View.canon (L9 c i M v x1 x4 x5 x8 x22 8)) ∗ owns (c : Thread nD τ) M.arg18 fullShare (View.canon (L18 c i M v x1 x4 x5 x8 x22 8)) ∗ (∃ d, owns (c : Thread nD τ) M.arg26 fullShare d) ∗ (∃ d, owns (c : Thread nD τ) M.arg27 fullShare d)) -∗ wp frame (wpE (defs₀ (F := F)) Variants.none c none) E (kk ⟨⟩) K))
      ⊢ wp frame (wpE (defs₀ (F := F)) Variants.none c none) E (Scf.Loop.for k0_t1_loop k0_t1_ok ⟨⟩ (k0_t1_body (F := F) i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v) >>= kk) K := by
  iintro ⟨H1, H4, H5, H8, H22, ⟨%d9, H9⟩, ⟨%d18, H18⟩, H26, H27, Hk⟩
  iapply (Scf.wp_for_bind frame (wpE (defs₀ (F := F)) Variants.none c none) E _ _ _ k0_t1_ok (⟨⟩ : PUnit) (k0_t1_body (F := F) i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v) (fun n _ => loopI c i M v x1 x4 x5 x8 x22 n) (loopI_step c i M v x1 x4 x5 x8 x22 E)) $$ [H1 H4 H5 H8 H22 H9 H18 H26 H27]
  · unfold loopI owns
    isplitl [H1]; · iexact H1
    isplitl [H4]; · iexact H4
    isplitl [H5]; · iexact H5
    isplitl [H8]; · iexact H8
    isplitl [H22]; · iexact H22
    isplitl [H9]
    · icases H9 with ⟨%f, -, H9⟩; iexists f; iexact H9
    isplitl [H18]
    · icases H18 with ⟨%f, -, H18⟩; iexists f; iexact H18
    isplitl [H26]; · iexact H26
    iexact H27
  iintro %acc HI
  rw [show Scf.trips k0_t1_loop.lb k0_t1_loop.ub k0_t1_loop.st = 8 from by decide +kernel]
  unfold loopI
  icases HI with ⟨H1, H4, H5, H8, H22, H9, H18, H26, H27⟩
  iapply Hk
  isplitl [H1]; · iexact H1
  isplitl [H4]; · iexact H4
  isplitl [H5]; · iexact H5
  isplitl [H8]; · iexact H8
  isplitl [H22]; · iexact H22
  isplitl [H9]; · iapply (owns_canon M.arg9 (cover9 c i M v x1 x4 x5 x8 x22)); iexact H9
  isplitl [H18]; · iapply (owns_canon M.arg18 (cover18 c i M v x1 x4 x5 x8 x22)); iexact H18
  isplitl [H26]; · iexact H26
  iexact H27

/-- What the body leaves in the seven results, from the blocks of the inputs. -/
def res14 (x1 : Vec F S1x256x4096 .bf16) (x2 : Vec F S4096x3072 .fp8e4m3) (x3 : Vec F S1024x4096 .fp8e4m3) (x4 : Vec F S1x4096 .f32) (x5 : Vec F S1x4096 .f32) (x6 : Vec F S1x64x256 .f32) (x7 : Vec F S1x64x256 .f32) (x8 : Vec F S1x256x4096 .bf16) : Vec F S1x256x3072 .bf16 := qkv14 c i M x1 x6 x2 x7
def res16 (x1 : Vec F S1x256x4096 .bf16) (x2 : Vec F S4096x3072 .fp8e4m3) (x3 : Vec F S1024x4096 .fp8e4m3) (x4 : Vec F S1x4096 .f32) (x5 : Vec F S1x4096 .f32) (x6 : Vec F S1x64x256 .f32) (x7 : Vec F S1x64x256 .f32) (x8 : Vec F S1x256x4096 .bf16) : Vec F S1x256x4096 .fp8e4m3 := cod16 c i M x1 x6
def res11 (x1 : Vec F S1x256x4096 .bf16) (x2 : Vec F S4096x3072 .fp8e4m3) (x3 : Vec F S1024x4096 .fp8e4m3) (x4 : Vec F S1x4096 .f32) (x5 : Vec F S1x4096 .f32) (x6 : Vec F S1x64x256 .f32) (x7 : Vec F S1x64x256 .f32) (x8 : Vec F S1x256x4096 .bf16) : Vec F S1x8x256 .f32 := View.canon (L11 c i M (qkv14 c i M x1 x6 x2 x7))
def res13 (x1 : Vec F S1x256x4096 .bf16) (x2 : Vec F S4096x3072 .fp8e4m3) (x3 : Vec F S1024x4096 .fp8e4m3) (x4 : Vec F S1x4096 .f32) (x5 : Vec F S1x4096 .f32) (x6 : Vec F S1x64x256 .f32) (x7 : Vec F S1x64x256 .f32) (x8 : Vec F S1x256x4096 .bf16) : Vec F S1x256x1024 .bf16 := View.canon (L13 c i M (qkv14 c i M x1 x6 x2 x7))
def res17 (x1 : Vec F S1x256x4096 .bf16) (x2 : Vec F S4096x3072 .fp8e4m3) (x3 : Vec F S1024x4096 .fp8e4m3) (x4 : Vec F S1x4096 .f32) (x5 : Vec F S1x4096 .f32) (x6 : Vec F S1x64x256 .f32) (x7 : Vec F S1x64x256 .f32) (x8 : Vec F S1x256x4096 .bf16) : Vec F S1x256x1024 .fp8e4m3 := View.canon (L17 c i M (qkv14 c i M x1 x6 x2 x7))
/-- The output projection, and its scale. -/
def br22 (x1 : Vec F S1x256x4096 .bf16) (x2 : Vec F S4096x3072 .fp8e4m3) (x3 : Vec F S1024x4096 .fp8e4m3) (x4 : Vec F S1x4096 .f32) (x5 : Vec F S1x4096 .f32) (x6 : Vec F S1x64x256 .f32) (x7 : Vec F S1x64x256 .f32) (x8 : Vec F S1x256x4096 .bf16) : Vec F S256x4096 .f32 := View.canon (L22 c i M x3 (res17 c i M x1 x2 x3 x4 x5 x6 x7 x8))
def sc22 (x1 : Vec F S1x256x4096 .bf16) (x2 : Vec F S4096x3072 .fp8e4m3) (x3 : Vec F S1024x4096 .fp8e4m3) (x4 : Vec F S1x4096 .f32) (x5 : Vec F S1x4096 .f32) (x6 : Vec F S1x64x256 .f32) (x7 : Vec F S1x64x256 .f32) (x8 : Vec F S1x256x4096 .bf16) := w1265 c i M x3 (res17 c i M x1 x2 x3 x4 x5 x6 x7 x8)
def res9 (x1 : Vec F S1x256x4096 .bf16) (x2 : Vec F S4096x3072 .fp8e4m3) (x3 : Vec F S1024x4096 .fp8e4m3) (x4 : Vec F S1x4096 .f32) (x5 : Vec F S1x4096 .f32) (x6 : Vec F S1x64x256 .f32) (x7 : Vec F S1x64x256 .f32) (x8 : Vec F S1x256x4096 .bf16) : Vec F S1x256x4096 .bf16 := View.canon (L9 c i M (sc22 c i M x1 x2 x3 x4 x5 x6 x7 x8) x1 x4 x5 x8 (br22 c i M x1 x2 x3 x4 x5 x6 x7 x8) 8)
def res18 (x1 : Vec F S1x256x4096 .bf16) (x2 : Vec F S4096x3072 .fp8e4m3) (x3 : Vec F S1024x4096 .fp8e4m3) (x4 : Vec F S1x4096 .f32) (x5 : Vec F S1x4096 .f32) (x6 : Vec F S1x64x256 .f32) (x7 : Vec F S1x64x256 .f32) (x8 : Vec F S1x256x4096 .bf16) : Vec F S1x256x4096 .fp8e5m2 := View.canon (L18 c i M (sc22 c i M x1 x2 x3 x4 x5 x6 x7 x8) x1 x4 x5 x8 (br22 c i M x1 x2 x3 x4 x5 x6 x7 x8) 8)

/-- The body: the inputs kept, the seven results at their values, the other buffers at anything. -/
theorem sound_kernel (x1 : Vec F S1x256x4096 .bf16) (x2 : Vec F S4096x3072 .fp8e4m3) (x3 : Vec F S1024x4096 .fp8e4m3) (x4 : Vec F S1x4096 .f32) (x5 : Vec F S1x4096 .f32) (x6 : Vec F S1x64x256 .f32) (x7 : Vec F S1x64x256 .f32) (x8 : Vec F S1x256x4096 .bf16) (E : Set ℕ) (K : PUnit → sProp 𝕄) :
    iprop(owns (c : Thread nD τ) M.arg1 fullShare x1 ∗ owns (c : Thread nD τ) M.arg2 fullShare x2 ∗ owns (c : Thread nD τ) M.arg3 fullShare x3 ∗ owns (c : Thread nD τ) M.arg4 fullShare x4 ∗ owns (c : Thread nD τ) M.arg5 fullShare x5 ∗ owns (c : Thread nD τ) M.arg6 fullShare x6 ∗ owns (c : Thread nD τ) M.arg7 fullShare x7 ∗ owns (c : Thread nD τ) M.arg8 fullShare x8 ∗ (∃ d, owns (c : Thread nD τ) M.arg9 fullShare d) ∗ (∃ d, owns (c : Thread nD τ) M.arg10 fullShare d) ∗ (∃ d, owns (c : Thread nD τ) M.arg11 fullShare d) ∗ (∃ d, owns (c : Thread nD τ) M.arg12 fullShare d) ∗ (∃ d, owns (c : Thread nD τ) M.arg13 fullShare d) ∗ (∃ d, owns (c : Thread nD τ) M.arg14 fullShare d) ∗ (∃ d, owns (c : Thread nD τ) M.arg15 fullShare d) ∗ (∃ d, owns (c : Thread nD τ) M.arg16 fullShare d) ∗ (∃ d, owns (c : Thread nD τ) M.arg17 fullShare d) ∗ (∃ d, owns (c : Thread nD τ) M.arg18 fullShare d) ∗ (∃ d, owns (c : Thread nD τ) M.arg19 fullShare d) ∗ (∃ d, owns (c : Thread nD τ) M.arg20 fullShare d) ∗ (∃ d, owns (c : Thread nD τ) M.arg21 fullShare d) ∗ (∃ d, owns (c : Thread nD τ) M.arg22 fullShare d) ∗ (∃ d, owns (c : Thread nD τ) M.arg23 fullShare d) ∗ (∃ d, owns (c : Thread nD τ) M.arg24 fullShare d) ∗ (∃ d, owns (c : Thread nD τ) M.arg25 fullShare d) ∗ (∃ d, owns (c : Thread nD τ) M.arg26 fullShare d) ∗ (∃ d, owns (c : Thread nD τ) M.arg27 fullShare d)
        ∗ (iprop(owns (c : Thread nD τ) M.arg1 fullShare x1 ∗ owns (c : Thread nD τ) M.arg2 fullShare x2 ∗ owns (c : Thread nD τ) M.arg3 fullShare x3 ∗ owns (c : Thread nD τ) M.arg4 fullShare x4 ∗ owns (c : Thread nD τ) M.arg5 fullShare x5 ∗ owns (c : Thread nD τ) M.arg6 fullShare x6 ∗ owns (c : Thread nD τ) M.arg7 fullShare x7 ∗ owns (c : Thread nD τ) M.arg8 fullShare x8 ∗ owns (c : Thread nD τ) M.arg9 fullShare (res9 c i M x1 x2 x3 x4 x5 x6 x7 x8) ∗ (∃ d, owns (c : Thread nD τ) M.arg10 fullShare d) ∗ owns (c : Thread nD τ) M.arg11 fullShare (res11 c i M x1 x2 x3 x4 x5 x6 x7 x8) ∗ (∃ d, owns (c : Thread nD τ) M.arg12 fullShare d) ∗ owns (c : Thread nD τ) M.arg13 fullShare (res13 c i M x1 x2 x3 x4 x5 x6 x7 x8) ∗ owns (c : Thread nD τ) M.arg14 fullShare (res14 c i M x1 x2 x3 x4 x5 x6 x7 x8) ∗ (∃ d, owns (c : Thread nD τ) M.arg15 fullShare d) ∗ owns (c : Thread nD τ) M.arg16 fullShare (res16 c i M x1 x2 x3 x4 x5 x6 x7 x8) ∗ owns (c : Thread nD τ) M.arg17 fullShare (res17 c i M x1 x2 x3 x4 x5 x6 x7 x8) ∗ owns (c : Thread nD τ) M.arg18 fullShare (res18 c i M x1 x2 x3 x4 x5 x6 x7 x8) ∗ (∃ d, owns (c : Thread nD τ) M.arg19 fullShare d) ∗ (∃ d, owns (c : Thread nD τ) M.arg20 fullShare d) ∗ (∃ d, owns (c : Thread nD τ) M.arg21 fullShare d) ∗ (∃ d, owns (c : Thread nD τ) M.arg22 fullShare d) ∗ (∃ d, owns (c : Thread nD τ) M.arg23 fullShare d) ∗ (∃ d, owns (c : Thread nD τ) M.arg24 fullShare d) ∗ (∃ d, owns (c : Thread nD τ) M.arg25 fullShare d) ∗ (∃ d, owns (c : Thread nD τ) M.arg26 fullShare d) ∗ (∃ d, owns (c : Thread nD τ) M.arg27 fullShare d)) -∗ K ⟨⟩))
      ⊢ wp frame (wpE (defs₀ (F := F)) Variants.none c none) E (cc0_mus_attn_main (F := F) i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27) K := by
  rw [main_body_eq]
  iintro ⟨H1, H2, H3, H4, H5, H6, H7, H8, H9, H10, H11, H12, H13, H14, H15, H16, H17, H18, H19, H20, H21, H22, H23, H24, H25, H26, H27, Hk⟩
  iapply (stepA c i M x1 x6 E K _)
  isplitl [H1]; · iexact H1
  isplitl [H6]; · iexact H6
  isplitl [H16]; · iexact H16
  isplitl [H26]; · iexact H26
  isplitl [H27]; · iexact H27
  iintro ⟨H1, H6, H16, H26, H27⟩
  iapply (stepB c i M x1 x6 x2 x7 E K _)
  isplitl [H2]; · iexact H2
  isplitl [H7]; · iexact H7
  isplitl [H16]; · iexact H16
  isplitl [H14]; · iexact H14
  iintro ⟨H2, H7, H16, H14⟩
  iapply (stepC c i M (qkv14 c i M x1 x6 x2 x7) E K _)
  isplitl [H14]; · iexact H14
  isplitl [H11]; · iexact H11
  isplitl [H13]; · iexact H13
  isplitl [H17]; · iexact H17
  isplitl [H24]; · iexact H24
  isplitl [H23]; · iexact H23
  iintro ⟨H14, H11, H13, H17, H24, H23⟩
  rw [show View.canon (L17 c i M (qkv14 c i M x1 x6 x2 x7)) = res17 c i M x1 x2 x3 x4 x5 x6 x7 x8 from rfl]
  iapply (stepD c i M x3 (res17 c i M x1 x2 x3 x4 x5 x6 x7 x8) E K _)
  isplitl [H3]; · iexact H3
  isplitl [H17]; · iexact H17
  isplitl [H22]; · iexact H22
  iintro ⟨H3, H17, H22⟩
  rw [show View.canon (L22 c i M x3 (res17 c i M x1 x2 x3 x4 x5 x6 x7 x8)) = br22 c i M x1 x2 x3 x4 x5 x6 x7 x8 from rfl, show w1265 c i M x3 (res17 c i M x1 x2 x3 x4 x5 x6 x7 x8) = sc22 c i M x1 x2 x3 x4 x5 x6 x7 x8 from rfl]
  iapply (stepL c i M (sc22 c i M x1 x2 x3 x4 x5 x6 x7 x8) x1 x4 x5 x8 (br22 c i M x1 x2 x3 x4 x5 x6 x7 x8) E K _)
  isplitl [H1]; · iexact H1
  isplitl [H4]; · iexact H4
  isplitl [H5]; · iexact H5
  isplitl [H8]; · iexact H8
  isplitl [H22]; · iexact H22
  isplitl [H9]; · iexact H9
  isplitl [H18]; · iexact H18
  isplitl [H26]; · iexact H26
  isplitl [H27]; · iexact H27
  iintro ⟨H1, H4, H5, H8, H22, H9, H18, H26, H27⟩
  rw [show View.canon (L18 c i M (sc22 c i M x1 x2 x3 x4 x5 x6 x7 x8) x1 x4 x5 x8 (br22 c i M x1 x2 x3 x4 x5 x6 x7 x8) 8) = res18 c i M x1 x2 x3 x4 x5 x6 x7 x8 from rfl, show View.canon (L9 c i M (sc22 c i M x1 x2 x3 x4 x5 x6 x7 x8) x1 x4 x5 x8 (br22 c i M x1 x2 x3 x4 x5 x6 x7 x8) 8) = res9 c i M x1 x2 x3 x4 x5 x6 x7 x8 from rfl]
  iapply (stepE c i M x3 (res18 c i M x1 x2 x3 x4 x5 x6 x7 x8) E K _)
  isplitl [H3]; · iexact H3
  isplitl [H18]; · iexact H18
  isplitl [H25]; · iexact H25
  iintro ⟨H3, H18, H25⟩
  icases H25 with ⟨%x25, H25⟩
  icases H24 with ⟨%x24, H24⟩
  icases H23 with ⟨%x23, H23⟩
  iapply (stepF c i M _ _ _ (qkv14 c i M x1 x6 x2 x7) x25 x24 x23 E K _)
  isplitl [H14]; · iexact H14
  isplitl [H25]; · iexact H25
  isplitl [H24]; · iexact H24
  isplitl [H23]; · iexact H23
  isplitl [H12]; · iexact H12
  isplitl [H15]; · iexact H15
  isplitl [H19]; · iexact H19
  iintro ⟨H14, H25, H24, H23, H12, H15, H19⟩
  icases H19 with ⟨%x19, H19⟩
  iapply (stepG c i M x2 x8 x19 E K)
  isplitl [H2]; · iexact H2
  isplitl [H8]; · iexact H8
  isplitl [H19]; · iexact H19
  isplitl [H10]; · iexact H10
  isplitl [H26]; · iexact H26
  isplitl [H27]; · iexact H27
  isplitl [H20]; · iexact H20
  isplitl [H21]; · iexact H21
  iintro ⟨H2, H8, H19, H10, H26, H27, H20, H21⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexact H20
  isplitl [H21]; · iexact H21
  isplitl [H22]; · iexists _; iexact H22
  isplitl [H23]; · iexists _; iexact H23
  isplitl [H24]; · iexists _; iexact H24
  isplitl [H25]; · iexists _; iexact H25
  isplitl [H26]; · iexact H26
  iexact H27
end Cert.MainIdeal.Gen

end
-- ==== Proof.MainRun.lean ====
/- The run of the main call: its frame, and what the arrays of seven of its results hold. -/
module

public import proofs.«01_k».proof.Proof.Body
public import Idealize.ShloMosaic.Lib.Claim

@[expose] public section

set_option maxRecDepth 65536
set_option maxHeartbeats 3200000
set_option synthInstance.maxSize 4096

noncomputable section

namespace Cert.MainIdeal.Gen

open Idealize.ShloMosaic Idealize.ShloMosaic.Pipeline Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memrefs the body is called on at point `t`: the current staging buffers and the scratch buffers. -/
def memsAt (t : Fin cfg0.N) : Mems where
  arg1 := win0_0.stage (cfg0.slots t 0)
  harg1 := hstage0_0 ((cfg0.slots t 0).cast nbuf0_0)
  arg2 := win0_1.stage (cfg0.slots t 1)
  harg2 := hstage0_1 ((cfg0.slots t 1).cast nbuf0_1)
  arg3 := win0_2.stage (cfg0.slots t 2)
  harg3 := hstage0_2 ((cfg0.slots t 2).cast nbuf0_2)
  arg4 := win0_3.stage (cfg0.slots t 3)
  harg4 := hstage0_3 ((cfg0.slots t 3).cast nbuf0_3)
  arg5 := win0_4.stage (cfg0.slots t 4)
  harg5 := hstage0_4 ((cfg0.slots t 4).cast nbuf0_4)
  arg6 := win0_5.stage (cfg0.slots t 5)
  harg6 := hstage0_5 ((cfg0.slots t 5).cast nbuf0_5)
  arg7 := win0_6.stage (cfg0.slots t 6)
  harg7 := hstage0_6 ((cfg0.slots t 6).cast nbuf0_6)
  arg8 := win0_7.stage (cfg0.slots t 7)
  harg8 := hstage0_7 ((cfg0.slots t 7).cast nbuf0_7)
  arg9 := win0_8.stage (cfg0.slots t 8)
  harg9 := hstage0_8 ((cfg0.slots t 8).cast nbuf0_8)
  arg10 := win0_9.stage (cfg0.slots t 9)
  harg10 := hstage0_9 ((cfg0.slots t 9).cast nbuf0_9)
  arg11 := win0_10.stage (cfg0.slots t 10)
  harg11 := hstage0_10 ((cfg0.slots t 10).cast nbuf0_10)
  arg12 := win0_11.stage (cfg0.slots t 11)
  harg12 := hstage0_11 ((cfg0.slots t 11).cast nbuf0_11)
  arg13 := win0_12.stage (cfg0.slots t 12)
  harg13 := hstage0_12 ((cfg0.slots t 12).cast nbuf0_12)
  arg14 := win0_13.stage (cfg0.slots t 13)
  harg14 := hstage0_13 ((cfg0.slots t 13).cast nbuf0_13)
  arg15 := win0_14.stage (cfg0.slots t 14)
  harg15 := hstage0_14 ((cfg0.slots t 14).cast nbuf0_14)
  arg16 := win0_15.stage (cfg0.slots t 15)
  harg16 := hstage0_15 ((cfg0.slots t 15).cast nbuf0_15)
  arg17 := win0_16.stage (cfg0.slots t 16)
  harg17 := hstage0_16 ((cfg0.slots t 16).cast nbuf0_16)
  arg18 := win0_17.stage (cfg0.slots t 17)
  harg18 := hstage0_17 ((cfg0.slots t 17).cast nbuf0_17)
  arg19 := win0_18.stage (cfg0.slots t 18)
  harg19 := hstage0_18 ((cfg0.slots t 18).cast nbuf0_18)
  arg20 := win0_19.stage (cfg0.slots t 19)
  harg20 := hstage0_19 ((cfg0.slots t 19).cast nbuf0_19)
  arg21 := win0_20.stage (cfg0.slots t 20)
  harg21 := hstage0_20 ((cfg0.slots t 20).cast nbuf0_20)
  arg22 := Memref.whole cc0_scratch0
  harg22 := Memref.isWhole_whole _
  arg23 := Memref.whole cc0_scratch1
  harg23 := Memref.isWhole_whole _
  arg24 := Memref.whole cc0_scratch2
  harg24 := Memref.isWhole_whole _
  arg25 := Memref.whole cc0_scratch3
  harg25 := Memref.isWhole_whole _
  arg26 := Memref.whole cc0_scratch4
  harg26 := Memref.isWhole_whole _
  arg27 := Memref.whole cc0_scratch5
  harg27 := Memref.isWhole_whole _

/-- The pipeline's invariant: the scratch buffers at anything, and the generator register. -/
theorem PhiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- The windows nothing is said of: the input's gradient, the row sums `delta`, the rotated query gradients, the codes of the
    projections' gradient, and the two accumulated bias gradients. -/
def forgets0 : Fin 21 → Bool := fun w => w.val == 9 || w.val == 11 || w.val == 14 || w.val == 18 || w.val == 19 || w.val == 20

/-- The proof data: the inputs' buffers at their blocks, the seven results' at what the body leaves of those blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => res9 c (grid0.coords t) (memsAt t) (iblk m c 0 t) (iblk m c 1 t) (iblk m c 2 t) (iblk m c 3 t) (iblk m c 4 t) (iblk m c 5 t) (iblk m c 6 t) (iblk m c 7 t)
    | ⟨9, _⟩ => Pipeline.Dat.unnamed (cfg := cfg0) ⟨9, by decide⟩ t
    | ⟨10, _⟩ => res11 c (grid0.coords t) (memsAt t) (iblk m c 0 t) (iblk m c 1 t) (iblk m c 2 t) (iblk m c 3 t) (iblk m c 4 t) (iblk m c 5 t) (iblk m c 6 t) (iblk m c 7 t)
    | ⟨11, _⟩ => Pipeline.Dat.unnamed (cfg := cfg0) ⟨11, by decide⟩ t
    | ⟨12, _⟩ => res13 c (grid0.coords t) (memsAt t) (iblk m c 0 t) (iblk m c 1 t) (iblk m c 2 t) (iblk m c 3 t) (iblk m c 4 t) (iblk m c 5 t) (iblk m c 6 t) (iblk m c 7 t)
    | ⟨13, _⟩ => res14 c (grid0.coords t) (memsAt t) (iblk m c 0 t) (iblk m c 1 t) (iblk m c 2 t) (iblk m c 3 t) (iblk m c 4 t) (iblk m c 5 t) (iblk m c 6 t) (iblk m c 7 t)
    | ⟨14, _⟩ => Pipeline.Dat.unnamed (cfg := cfg0) ⟨14, by decide⟩ t
    | ⟨15, _⟩ => res16 c (grid0.coords t) (memsAt t) (iblk m c 0 t) (iblk m c 1 t) (iblk m c 2 t) (iblk m c 3 t) (iblk m c 4 t) (iblk m c 5 t) (iblk m c 6 t) (iblk m c 7 t)
    | ⟨16, _⟩ => res17 c (grid0.coords t) (memsAt t) (iblk m c 0 t) (iblk m c 1 t) (iblk m c 2 t) (iblk m c 3 t) (iblk m c 4 t) (iblk m c 5 t) (iblk m c 6 t) (iblk m c 7 t)
    | ⟨17, _⟩ => res18 c (grid0.coords t) (memsAt t) (iblk m c 0 t) (iblk m c 1 t) (iblk m c 2 t) (iblk m c 3 t) (iblk m c 4 t) (iblk m c 5 t) (iblk m c 6 t) (iblk m c 7 t)
    | ⟨18, _⟩ => Pipeline.Dat.unnamed (cfg := cfg0) ⟨18, by decide⟩ t
    | ⟨19, _⟩ => Pipeline.Dat.unnamed (cfg := cfg0) ⟨19, by decide⟩ t
    | ⟨20, _⟩ => Pipeline.Dat.unnamed (cfg := cfg0) ⟨20, by decide⟩ t
    | ⟨n + 21, h⟩ => absurd h (by show ¬ n + 21 < 21; omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = res9 c (grid0.coords t) (memsAt t) (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = res11 c (grid0.coords t) (memsAt t) (iblk m c 0 t) (iblk m c 1 t) (iblk m c 2 t) (iblk m c 3 t) (iblk m c 4 t) (iblk m c 5 t) (iblk m c 6 t) (iblk m c 7 t) := by dsimp only [dats]
theorem after0_12 (c : Dev nD) (t : Fin cfg0.N) : (dats m 0 c).after 12 t = res13 c (grid0.coords t) (memsAt t) (iblk m c 0 t) (iblk m c 1 t) (iblk m c 2 t) (iblk m c 3 t) (iblk m c 4 t) (iblk m c 5 t) (iblk m c 6 t) (iblk m c 7 t) := by dsimp only [dats]
theorem after0_13 (c : Dev nD) (t : Fin cfg0.N) : (dats m 0 c).after 13 t = res14 c (grid0.coords t) (memsAt t) (iblk m c 0 t) (iblk m c 1 t) (iblk m c 2 t) (iblk m c 3 t) (iblk m c 4 t) (iblk m c 5 t) (iblk m c 6 t) (iblk m c 7 t) := by dsimp only [dats]
theorem after0_15 (c : Dev nD) (t : Fin cfg0.N) : (dats m 0 c).after 15 t = res16 c (grid0.coords t) (memsAt t) (iblk m c 0 t) (iblk m c 1 t) (iblk m c 2 t) (iblk m c 3 t) (iblk m c 4 t) (iblk m c 5 t) (iblk m c 6 t) (iblk m c 7 t) := by dsimp only [dats]
theorem after0_16 (c : Dev nD) (t : Fin cfg0.N) : (dats m 0 c).after 16 t = res17 c (grid0.coords t) (memsAt t) (iblk m c 0 t) (iblk m c 1 t) (iblk m c 2 t) (iblk m c 3 t) (iblk m c 4 t) (iblk m c 5 t) (iblk m c 6 t) (iblk m c 7 t) := by dsimp only [dats]
theorem after0_17 (c : Dev nD) (t : Fin cfg0.N) : (dats m 0 c).after 17 t = res18 c (grid0.coords t) (memsAt t) (iblk m c 0 t) (iblk m c 1 t) (iblk m c 2 t) (iblk m c 3 t) (iblk m c 4 t) (iblk m c 5 t) (iblk m c 6 t) (iblk m c 7 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ X, owns (c : Thread nD τ) (st0_9 t) fullShare X) ∗ (∃ d, owns (c : Thread nD τ) (st0_10 t) fullShare ((dats m 0 c).before 10 t d)) ∗ (∃ X, owns (c : Thread nD τ) (st0_11 t) fullShare X) ∗ (∃ d, owns (c : Thread nD τ) (st0_12 t) fullShare ((dats m 0 c).before 12 t d)) ∗ (∃ d, owns (c : Thread nD τ) (st0_13 t) fullShare ((dats m 0 c).before 13 t d)) ∗ (∃ X, owns (c : Thread nD τ) (st0_14 t) fullShare X) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ X, owns (c : Thread nD τ) (st0_18 t) fullShare X) ∗ (∃ X, owns (c : Thread nD τ) (st0_19 t) fullShare X) ∗ (∃ X, owns (c : Thread nD τ) (st0_20 t) fullShare X))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ (∃ X, owns (c : Thread nD τ) (st0_9 t) fullShare X) ∗ owns (c : Thread nD τ) (st0_10 t) fullShare ((dats m 0 c).after 10 t) ∗ (∃ X, owns (c : Thread nD τ) (st0_11 t) fullShare X) ∗ owns (c : Thread nD τ) (st0_12 t) fullShare ((dats m 0 c).after 12 t) ∗ owns (c : Thread nD τ) (st0_13 t) fullShare ((dats m 0 c).after 13 t) ∗ (∃ X, owns (c : Thread nD τ) (st0_14 t) fullShare X) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ (∃ X, owns (c : Thread nD τ) (st0_18 t) fullShare X) ∗ (∃ X, owns (c : Thread nD τ) (st0_19 t) fullShare X) ∗ (∃ X, owns (c : Thread nD τ) (st0_20 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq,
    after0_0, after0_1, after0_2, after0_3, after0_4, after0_5, after0_6, after0_7, after0_8, after0_10, after0_12, after0_13, after0_15, after0_16, after0_17]
  iintro ⟨⟨⟨HS0, HS1, HS2, HS3, HS4, HS5⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c (grid0.coords t) (memsAt t) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, H20, HS0, HS1, HS2, HS3, HS4, HS5⟩
  isplitl [HS0 HS1 HS2 HS3 HS4 HS5 Hr]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: every weakly fair execution ends, the arrays of the seven results at what the proof data compute, the
    counters at zero. -/
theorem run_main_quiescent : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE RUN, without the counters. -/
theorem run_main : θ_run defs (onTc (τ := τ) (main (F := F))) (s₀ m ρ)
    (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.arr_in c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (h.arr_in c 7 rfl).trans ((A_eq m c 7).trans (V_main_arg7 m c))⟩) (run_main m ρ)

/-- THE FRAME: the run ends, the argument arrays unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))
end Cert.MainIdeal.Gen

end
-- ==== Proof.MainFrame.lean ====
/- The main call as printed for the machine's floats: its text is the text of the idealized program, so its run is the
   run already described, read at the machine's floats. -/
module

public import proofs.«01_k».proof.Defs
public import proofs.«01_k».proof.Proof.MainRun
public import proofs.«01_k».proof.Proof.Gen.Main.Frame

@[expose] public section

set_option maxHeartbeats 3200000
set_option maxRecDepth 100000

noncomputable section

namespace Cert.Main.Frame

open Idealize.ShloMosaic Idealize.SL.Sem

attribute [local instance] Cert.Main.Gen.facts Cert.MainIdeal.Gen.facts

/-- The two programs have the same helper functions. -/
theorem defs_eq : Cert.Main.defs (F := Bits) = Cert.MainIdeal.defs (F := Bits) := by sl_kernel_rfl

/-- The two programs have the same text. -/
theorem main_eq : Cert.Main.main (F := Bits) = Cert.MainIdeal.main (F := Bits) := by sl_kernel_rfl

/-- The program as printed runs, leaves its arguments as they were and every semaphore at zero. -/
theorem frame : Cert.quiescent_Main := by
  intro m g _
  have h := Cert.MainIdeal.Gen.frame (F := Bits) m g
  rw [← defs_eq, ← main_eq] at h
  exact h

end Cert.Main.Frame

end
-- ==== Proof.Spec.lean ====
/- What the main call computes, over the extended reals, one row at a time: the codes, the rotated projections, causal
   attention with the square root of the softmax denominator, the output projection and the normalised residual.

   `Q` below stands for the rotated projections of one batch entry: row, group of 128 columns (8 of queries, 8 of keys,
   8 of values), column inside the group. -/
module

public import Idealize.ShloMosaic.Lib.Pipeline.ValueKit
public import Idealize.ShloMosaic.Lib.Pointwise
public import Idealize.ShloMosaic.Lib.IdealHost

@[expose] public section

noncomputable section

namespace Cert.Spec

open Idealize.ShloMosaic

/-- Clipping to the range of the four-bit-exponent format. -/
def clip4 (x : EReal) : EReal := min (Ideal.ofBits .f32 0x43E00000#32) (max (Ideal.ofBits .f32 0xC3E00000#32) x)

/-- Clipping to the range of the five-bit-exponent format. -/
def clip5 (x : EReal) : EReal := min (Ideal.ofBits .f32 0x47600000#32) (max (Ideal.ofBits .f32 0xC7600000#32) x)

/-- A row of codes times a column of the projection, scaled by 1/64. -/
def proj (X : Fin 4096 → EReal) (W : Fin 4096 → Fin 3072 → EReal) (j : Fin 3072) : EReal :=
  (∑ k, clip4 (X k) * W k j) * Ideal.ofBits .f32 0x3C800000#32

/-- The rotary embedding of a row of projections: the queries and keys rotated, the values left. -/
def rot (P : Fin 3072 → EReal) (co si : Fin 64 → EReal) (g : Fin 24) (d : Fin 128) : EReal :=
  if g.val < 16 then
    if h : d.val < 64 then
      P ⟨g.val * 128 + d.val, by omega⟩ * co ⟨d.val, h⟩ - P ⟨g.val * 128 + (64 + d.val), by omega⟩ * si ⟨d.val, h⟩
    else
      P ⟨g.val * 128 + d.val, by omega⟩ * co ⟨d.val - 64, by omega⟩
        + P ⟨g.val * 128 + (d.val - 64), by omega⟩ * si ⟨d.val - 64, by omega⟩
  else P ⟨g.val * 128 + d.val, by omega⟩

/-- The inner product of a query and a key of head `h`. -/
def score (Q : Fin 256 → Fin 24 → Fin 128 → EReal) (h : Fin 8) (q k : Fin 256) : EReal :=
  ∑ x, Q q ⟨h.val, by omega⟩ x * Q k ⟨8 + h.val, by omega⟩ x

/-- The logit of query `q` and key `k`, in base two: minus infinity after the query. -/
def logit (Q : Fin 256 → Fin 24 → Fin 128 → EReal) (h : Fin 8) (q k : Fin 256) : EReal :=
  if k ≤ q then score Q h q k * Ideal.ofBits .f32 0x3E0293EE#32 else ⊥

/-- The even whole number that the logits are shifted by. -/
def shift (Q : Fin 256 → Fin 24 → Fin 128 → EReal) (h : Fin 8) (q : Fin 256) : EReal :=
  Ideal.ofBits .f32 0x40000000#32
    * Ideal.liftRound Int.ceil (Ideal.ofBits .f32 0x3F000000#32 * Finset.univ.fold max ⊥ (fun k => logit Q h q k))

/-- The softmax denominator. -/
def den (Q : Fin 256 → Fin 24 → Fin 128 → EReal) (h : Fin 8) (q : Fin 256) : EReal :=
  ∑ k, Ideal.exp2 (logit Q h q k - shift Q h q)

/-- The attention output: square roots of the exponentials over the square root of the denominator. -/
def att (Q : Fin 256 → Fin 24 → Fin 128 → EReal) (h : Fin 8) (q : Fin 256) (d : Fin 128) : EReal :=
  (∑ k, Ideal.exp2 ((logit Q h q k - shift Q h q) * Ideal.ofBits .f32 0x3F000000#32) * Q k ⟨16 + h.val, by omega⟩ d)
    * Ideal.div 1 (Ideal.sqrt (den Q h q))

/-- The log-sum-exp in base two. -/
def lse2 (Q : Fin 256 → Fin 24 → Fin 128 → EReal) (h : Fin 8) (q : Fin 256) : EReal :=
  shift Q h q + Ideal.div (Ideal.log (den Q h q)) (Ideal.log (Ideal.ofBits .f32 0x40000000#32))

/-- The log-sum-exp in base e, less the logarithm of the row's number of keys. -/
def lse (Q : Fin 256 → Fin 24 → Fin 128 → EReal) (h : Fin 8) (q : Fin 256) : EReal :=
  lse2 Q h q * Ideal.ofBits .f32 0x3F317218#32
    - Ideal.log (FloatOps.sitofp (F := Ideal) .f32 (IntOp.addi (BitVec.ofNat 32 q.val) 1#32))

/-- A row of attention codes times a column of the output projection, scaled by 1/32. -/
def branch (O : Fin 1024 → EReal) (W : Fin 1024 → Fin 4096 → EReal) (j : Fin 4096) : EReal :=
  (∑ x, clip4 (O x) * W x j) * Ideal.ofBits .f32 0x3D000000#32

/-- The mean of a row. -/
def mean (P : Fin 4096 → EReal) : EReal := Ideal.div (∑ k, P k) (Ideal.ofBits .f32 0x45800000#32)

/-- One over the standard deviation of a row. -/
def rstd (P : Fin 4096 → EReal) : EReal :=
  Ideal.div 1 (Ideal.sqrt (mean (fun k => (P k - mean P) * (P k - mean P)) + Ideal.ofBits .f32 0x3727C5AC#32))

/-- A row normalised. -/
def zed (P : Fin 4096 → EReal) (j : Fin 4096) : EReal := (P j - mean P) * rstd P

/-- The gradient at the normalised row. -/
def grad (DY GA : Fin 4096 → EReal) (j : Fin 4096) : EReal := Ideal.ofBits .f32 0x3EE4F92E#32 * DY j * GA j

/-- The output row. -/
def out (P X GA BE : Fin 4096 → EReal) (j : Fin 4096) : EReal :=
  Ideal.ofBits .f32 0x3F64F92E#32 * X j + Ideal.ofBits .f32 0x3EE4F92E#32 * (zed P j * GA j + BE j)

/-- The codes of the gradient at the output projection. -/
def gcode (P DY GA : Fin 4096 → EReal) (j : Fin 4096) : EReal :=
  clip5 (rstd P * (grad DY GA j - mean (grad DY GA)
    - zed P j * (rstd P * mean (fun k => grad DY GA k * (P k - mean P)))))

/-! ### Constants -/

theorem two_eq : Ideal.ofBits .f32 0x40000000#32 = ((2 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem dim_eq : Ideal.ofBits .f32 0x45800000#32 = ((4096 : ℝ) : EReal) := by
  simp [Ideal.ofBits, Ideal.ieee, -EReal.coe_mul]; norm_num
theorem invdim_eq : Ideal.ofBits .f32 0x39800000#32 = ((1 / 4096 : ℝ) : EReal) := by
  simp [Ideal.ofBits, Ideal.ieee, -EReal.coe_mul]; norm_num
theorem eps_pos : ∃ e : ℝ, 0 < e ∧ Ideal.ofBits .f32 0x3727C5AC#32 = (e : EReal) := by
  refine ⟨_, ?_, by simp only [Ideal.ofBits, Ideal.ieee]; simp [-EReal.coe_mul]; rfl⟩
  positivity
theorem cbr_eq : ∃ e : ℝ, 0 ≤ e ∧ Ideal.ofBits .f32 0x3EE4F92E#32 = (e : EReal) := by
  refine ⟨_, ?_, by simp only [Ideal.ofBits, Ideal.ieee]; simp [-EReal.coe_mul]; rfl⟩
  positivity
theorem scale_eq : Ideal.ofBits .f32 0x3E0293EE#32
    = ((2 : ℝ) : EReal) * Ideal.ofBits .f32 0x3D8293EE#32 := by
  simp [Ideal.ofBits, Ideal.ieee, -EReal.coe_mul]
  rw [← EReal.coe_mul]; congr 1; norm_num
theorem neginf_eq : Ideal.ofBits .f32 0xFF800000#32 = ⊥ := by
  simp [Ideal.ofBits, Ideal.ieee]

/-! ### Laws -/

theorem bot_sub (x : EReal) : ⊥ - x = ⊥ := by rw [sub_eq_add_neg, EReal.bot_add]

theorem two_mul_sub (x y : EReal) : ((2 : ℝ) : EReal) * x - ((2 : ℝ) : EReal) * y = ((2 : ℝ) : EReal) * (x - y) := by
  rw [sub_eq_add_neg, sub_eq_add_neg, ← mul_neg,
    EReal.left_distrib_of_nonneg_of_ne_top (by exact_mod_cast (by norm_num : (0:ℝ) ≤ 2)) (EReal.coe_ne_top _)]

theorem two_mul_half (x : EReal) : ((2 : ℝ) : EReal) * x * ((1 / 2 : ℝ) : EReal) = x := by
  rw [mul_comm, ← mul_assoc, ← EReal.coe_mul]; norm_num

theorem half_mul_two (x : EReal) : ((1 / 2 : ℝ) : EReal) * (((2 : ℝ) : EReal) * x) = x := by
  rw [← mul_assoc, ← EReal.coe_mul]; norm_num

theorem exp2_two (x : EReal) : Ideal.exp2 (((2 : ℝ) : EReal) * x) = Ideal.exp2 x * Ideal.exp2 x := by
  induction x with
  | bot =>
    rw [EReal.coe_mul_bot_of_pos (by norm_num)]; simp
  | top =>
    rw [EReal.coe_mul_top_of_pos (by norm_num)]; simp
  | coe r =>
    rw [← EReal.coe_mul, Ideal.exp2_coe, Ideal.exp2_coe, ← EReal.coe_mul]
    congr 1
    show (2:ℝ) ^ (2 * r) = (2:ℝ) ^ r * (2:ℝ) ^ r
    rw [← Real.rpow_add (by norm_num)]; congr 1; ring

theorem exp2_nonneg (x : EReal) : 0 ≤ Ideal.exp2 x := by
  induction x with
  | bot => simp
  | top => simp
  | coe r =>
    rw [Ideal.exp2_coe]; exact_mod_cast Real.rpow_nonneg (by norm_num) r

/-- Multiplying by a reciprocal square root is dividing one by the square root, off the negatives. -/
theorem rsqrt_eq {d : EReal} (h : 0 ≤ d) : Ideal.rsqrt d = Ideal.div 1 (Ideal.sqrt d) := by
  induction d with
  | bot => simp at h
  | top =>
    show (0 : EReal) = if (⊤ : EReal) = 0 then (if (0 : EReal) < 1 then ⊤ else ⊥) else 1 * (⊤ : EReal)⁻¹
    simp
  | coe r =>
    have hr : 0 ≤ r := by exact_mod_cast h
    rw [Ideal.rsqrt_coe, if_neg (not_lt.mpr hr)]
    show _ = Ideal.div 1 (if r < 0 then ⊥ else ((Real.sqrt r : ℝ) : EReal))
    rw [if_neg (not_lt.mpr hr)]
    unfold Ideal.div
    by_cases h0 : r = 0
    · simp [h0]
    · have : Real.sqrt r ≠ 0 := by rwa [Real.sqrt_ne_zero hr]
      rw [if_neg h0, if_neg (by exact_mod_cast this), one_mul, EReal.coe_inv]

theorem div_dim (x : EReal) : Ideal.div x (Ideal.ofBits .f32 0x45800000#32) = x * Ideal.ofBits .f32 0x39800000#32 := by
  rw [dim_eq, invdim_eq]; unfold Ideal.div
  rw [if_neg (by norm_num), ← EReal.coe_inv]; congr 2; norm_num

theorem mul_self_nonneg' (x : EReal) : 0 ≤ x * x := by
  induction x with
  | bot => simp
  | top => simp
  | coe r => rw [← EReal.coe_mul]; exact_mod_cast mul_self_nonneg r

theorem mean_sq_nonneg (f : Fin 4096 → EReal) : 0 ≤ mean (fun k => f k * f k) := by
  unfold mean; rw [div_dim, invdim_eq]
  refine mul_nonneg (Finset.sum_nonneg fun k _ => mul_self_nonneg' _) ?_
  exact_mod_cast (by norm_num : (0:ℝ) ≤ 1 / 4096)

/-! ### Attention with the logits halved, over a prefix of the keys -/

section

variable (Q : Fin 256 → Fin 24 → Fin 128 → EReal) (h : Fin 8) (q : Fin 256)

/-- Half the logit. -/
def hlogit (k : Fin 256) : EReal := if k ≤ q then score Q h q k * Ideal.ofBits .f32 0x3D8293EE#32 else ⊥

theorem logit_eq (k : Fin 256) : logit Q h q k = ((2 : ℝ) : EReal) * hlogit Q h q k := by
  unfold logit hlogit
  split
  · rw [scale_eq, ← mul_assoc, ← mul_assoc, mul_comm (((2 : ℝ) : EReal))]
  · rw [EReal.coe_mul_bot_of_pos (by norm_num)]

theorem fold_logit : Finset.univ.fold max ⊥ (fun k => logit Q h q k)
    = ((2 : ℝ) : EReal) * Finset.univ.fold max ⊥ (fun k => hlogit Q h q k) := by
  simp only [logit_eq]
  have hm : Monotone fun x : EReal => ((2 : ℝ) : EReal) * x := fun a b hab =>
    mul_le_mul_of_nonneg_left hab (by exact_mod_cast (by norm_num : (0:ℝ) ≤ 2))
  have := Finset.fold_hom (op := max) (op' := max) (m := fun x : EReal => ((2 : ℝ) : EReal) * x) (b := ⊥)
    (s := Finset.univ) (f := fun k => hlogit Q h q k) (fun x y => hm.map_max)
  rw [← this]
  simp only [EReal.coe_mul_bot_of_pos (by norm_num : (0:ℝ) < 2)]

/-- Half the shift. -/
def hshift : EReal := Ideal.liftRound Int.ceil (Finset.univ.fold max ⊥ (fun k => hlogit Q h q k))

theorem shift_eq : shift Q h q = ((2 : ℝ) : EReal) * hshift Q h q := by
  unfold shift hshift; rw [fold_logit, half_eq, half_mul_two, two_eq]

/-- The square root of a weight. -/
def wt (k : Fin 256) : EReal := Ideal.exp2 (hlogit Q h q k - hshift Q h q)

theorem den_eq : den Q h q = ∑ k, wt Q h q k * wt Q h q k := by
  unfold den wt
  simp only [logit_eq, shift_eq, two_mul_sub, exp2_two]

theorem den_nonneg : 0 ≤ den Q h q := by
  rw [den_eq]; exact Finset.sum_nonneg fun k _ => mul_self_nonneg' _

theorem att_eq (d : Fin 128) : att Q h q d
    = (∑ k, wt Q h q k * Q k ⟨16 + h.val, by omega⟩ d) * Ideal.rsqrt (∑ k, wt Q h q k * wt Q h q k) := by
  rw [← den_eq, rsqrt_eq (den_nonneg Q h q)]
  unfold att wt
  simp only [logit_eq, shift_eq, two_mul_sub, half_eq, two_mul_half]

theorem lse2_eq : lse2 Q h q = Ideal.ofBits .f32 0x40000000#32 * hshift Q h q
    + Ideal.div (Ideal.log (∑ k, wt Q h q k * wt Q h q k)) (Ideal.log (Ideal.ofBits .f32 0x40000000#32)) := by
  unfold lse2; rw [shift_eq, den_eq, two_eq]

theorem wt_of_lt {k : Fin 256} (hk : q < k) : wt Q h q k = 0 := by
  unfold wt hlogit; rw [if_neg (not_le.mpr hk), bot_sub]; rfl

/-- A sum over the keys, of terms that vanish after the query, is the sum over the first half for a query of the first
    half. -/
theorem sum_top (f : Fin 256 → EReal) (hq : q.val < 128) (hf : ∀ k, q < k → f k = 0) :
    ∑ k, f k = ∑ k : Fin 128, f ⟨k.val, by omega⟩ := by
  rw [Fin.sum_univ_two_halves 128 128 rfl]
  rw [Finset.sum_eq_zero (f := fun k : Fin 128 => f ⟨128 + k.val, by omega⟩), add_zero]
  intro k _
  refine hf _ ?_
  show q.val < 128 + k.val
  omega

/-- The greatest half logit, likewise. -/
theorem fold_top (hq : q.val < 128) : Finset.univ.fold max ⊥ (fun k => hlogit Q h q k)
    = Finset.univ.fold max ⊥ (fun k : Fin 128 => hlogit Q h q ⟨k.val, by omega⟩) := by
  refine le_antisymm ?_ ?_
  · rw [Finset.fold_max_le]
    refine ⟨bot_le, fun k _ => ?_⟩
    by_cases hk : k.val < 128
    · exact Finset.le_fold_max _ |>.mpr (Or.inr ⟨⟨k.val, hk⟩, Finset.mem_univ _, le_rfl⟩)
    · have : hlogit Q h q k = ⊥ := by unfold hlogit; rw [if_neg]; show ¬ k.val ≤ q.val; omega
      rw [this]; exact bot_le
  · rw [Finset.fold_max_le]
    exact ⟨bot_le, fun k _ => Finset.le_fold_max _ |>.mpr (Or.inr ⟨⟨k.val, by omega⟩, Finset.mem_univ _, le_rfl⟩)⟩

end

/-! ### The normalised residual, with the products ordered as the chunked loop orders them -/

section

variable (P X DY GA BE : Fin 4096 → EReal) (j : Fin 4096)

/-- A mean, as a sum times a reciprocal. -/
theorem mean_eq (f : Fin 4096 → EReal) : mean f = (∑ k, f k) * Ideal.ofBits .f32 0x39800000#32 := div_dim _

theorem grad_eq : grad DY GA j = DY j * (Ideal.ofBits .f32 0x3EE4F92E#32 * GA j) := by
  unfold grad; rw [mul_comm (Ideal.ofBits .f32 0x3EE4F92E#32) (DY j), mul_assoc]

theorem rstd_eq : rstd P = Ideal.rsqrt ((∑ k, (P k - mean P) * (P k - mean P)) * Ideal.ofBits .f32 0x39800000#32
    + Ideal.ofBits .f32 0x3727C5AC#32) := by
  obtain ⟨e, he, h⟩ := eps_pos
  rw [← mean_eq fun k => (P k - mean P) * (P k - mean P), rsqrt_eq]
  · rfl
  · rw [h]; exact add_nonneg (mean_sq_nonneg _) (by exact_mod_cast he.le)

theorem out_eq : out P X GA BE j = Ideal.ofBits .f32 0x3F64F92E#32 * X j
    + (zed P j * (Ideal.ofBits .f32 0x3EE4F92E#32 * GA j) + Ideal.ofBits .f32 0x3EE4F92E#32 * BE j) := by
  obtain ⟨e, he, h⟩ := cbr_eq
  unfold out
  rw [h, EReal.left_distrib_of_nonneg_of_ne_top (by exact_mod_cast he) (EReal.coe_ne_top _),
    mul_left_comm]

end

end Cert.Spec

end
-- ==== Proof.RefVal.lean ====
/- The reference, read: each of its seven arrays at an index is the row formula of `Spec.lean`. The reference works on all
   1536 rows at once (`row b r` is row `r` of batch entry `b`) and on 48 heads at once (`hd b h` is head `h` of `b`). -/
module

public import proofs.«01_k».proof.Proof.Gen.MainRefIdeal.Frame
public import proofs.«01_k».proof.Proof.Spec
public import Idealize.ShloMosaic.Lib.Affine

@[expose] public section

set_option maxRecDepth 16384

noncomputable section

namespace Cert.MainRefIdeal.Val

open Idealize.ShloMosaic Idealize.ShloMosaic.TcCoe
open Cert.MainRefIdeal Cert.MainRefIdeal.Gen
open Cert (Spec.clip4)

/-- Row `r` of batch entry `b`. -/
def row (b : Fin 6) (r : Fin 256) : Fin 1536 := ⟨b.val * 256 + r.val, by omega⟩

/-- Head `h` of batch entry `b`. -/
def hd (b : Fin 6) (h : Fin 8) : Fin 48 := ⟨b.val * 8 + h.val, by omega⟩

/-- The causal mask: a key is kept when it does not come after the query. -/
theorem mask {α : Type} (q k : Nat) (hq : q < 256) (hk : k < 256) (a b : α) :
    Scalar.select (IntOp.cmpi .sle (BitVec.ofNat 32 k) (BitVec.ofNat 32 q)) a b = if k ≤ q then a else b := by
  have e : (IntOp.cmpi .sle (BitVec.ofNat 32 k) (BitVec.ofNat 32 q) = 1#1) ↔ k ≤ q := by
    unfold IntOp.cmpi
    have hk' : (BitVec.ofNat 32 k).toInt = k := by
      rw [BitVec.toInt_eq_toNat_of_lt] <;> simp [BitVec.toNat_ofNat] <;> omega
    have hq' : (BitVec.ofNat 32 q).toInt = q := by
      rw [BitVec.toInt_eq_toNat_of_lt] <;> simp [BitVec.toNat_ofNat] <;> omega
    simp only [BitVec.sle, hk', hq', Nat.cast_le]
    by_cases h : k ≤ q <;> simp [h]
  by_cases h : k ≤ q
  · rw [if_pos h, Scalar.select_of_eq_one (e.mpr h)]
  · rw [if_neg h, Scalar.select_of_ne_one (fun hh => h (e.mp hh))]

section

variable (v0 : Vec Ideal S1536x4096 .bf16) (v10 : Vec Ideal S4096x3072 .fp8e4m3) (v16 v19 : Vec Ideal S1536x64 .f32)
variable (b : Fin 6) (r : Fin 256)

theorem pay4 (j : Fin 4096) : k0_pay4 (F := Ideal) v0 (ix3 b r j) = Spec.clip4 (v0 (ix2 (row b r) j)) := by
  pointwise [k0_pay4, k0_pay3, k0_pay2]
  rfl

theorem pay5 (g : Fin 24) (d : Fin 128) : k0_pay5 (F := Ideal) v0 v10 v16 v19 (ix3 (row b r) g d)
    = Spec.rot (Spec.proj (fun k => v0 (ix2 (row b r) k)) (fun k j => v10 (ix2 k j))) (fun l => v16 (ix2 (row b r) l))
      (fun l => v19 (ix2 (row b r) l)) g d := by
  pointwise [k0_pay5, k0_pay3, k0_pay2]
  unfold Spec.rot Spec.proj Spec.clip4
  by_cases hg : g.val < 16
  · by_cases hd : d.val < 64
    · simp only [hg, hd, ↓reduceDIte, ↓reduceIte]
    · simp only [hg, hd, ↓reduceDIte, ↓reduceIte, show 64 + (d.val - 64) = d.val by omega]
  · simp only [hg, ↓reduceDIte, ↓reduceIte, show 16 + (g.val - 16) = g.val by omega]

theorem pay6 (g : Fin 24) (d : Fin 128) : k0_pay6 (F := Ideal) v0 v10 v16 v19 (ix3 b r ⟨g.val * 128 + d.val, by omega⟩)
    = k0_pay5 (F := Ideal) v0 v10 v16 v19 (ix3 (row b r) g d) := by
  pointwise [k0_pay6]
  rfl

end

section

variable (v39 : FVec Ideal S1536x24x128 .bf16) (b : Fin 6) (Q : Fin 256 → Fin 24 → Fin 128 → EReal)
  (hQ : ∀ r g d, v39 (ix3 (row b r) g d) = Q r g d) (h : Fin 8) (q : Fin 256)
include hQ

theorem pay7 (k : Fin 256) : k0_pay7 (F := Ideal) v39 (ix3 (hd b h) q k) = Spec.logit Q h q k := by
  pointwise [k0_pay7, hd]
  rw [mask _ _ q.isLt k.isLt]
  unfold Spec.logit Spec.score
  simp only [← hQ, Spec.neginf_eq]
  rfl

theorem pay8 : k0_pay8 (F := Ideal) v39 (ix3 (hd b h) q 0) = Spec.shift Q h q := by
  unfold k0_pay8 Spec.shift
  rw [← Spec.neginf_eq]
  simp only [← pay7 v39 b Q hQ]
  have e : ∀ two half : EReal, mulf (broadcast S48x256x1 two) (ceil (mulf (broadcast S48x256x1 half)
      (shapeCast S48x256x1 (multiReduction (F := Ideal) .maximumf [2] S48x256 (k0_pay7 v39) 0xFF800000#32
        reduces_S48x256x256_S48x256 (.inl rfl) rfl) shapeCasts_S48x256_S48x256x1))) (ix3 (hd b h) q 0)
      = two * Ideal.liftRound Int.ceil (half * Finset.univ.fold max (Ideal.ofBits .f32 0xFF800000#32)
          (fun k => k0_pay7 (F := Ideal) v39 (ix3 (hd b h) q k))) := by
    intro two half
    pointwise []
  exact e _ _

theorem pay9 : k0_pay9 (F := Ideal) v39 (ix3 (hd b h) q 0) = Spec.den Q h q := by
  unfold Spec.den
  simp only [← pay7 v39 b Q hQ, ← pay8 v39 b Q hQ]
  pointwise [k0_pay9]
  rfl

theorem pay10 (d : Fin 128) : k0_pay10 (F := Ideal) v39 (ix3 (hd b h) q d) = Spec.att Q h q d := by
  unfold Spec.att
  rw [← pay9 v39 b Q hQ]
  simp only [← pay7 v39 b Q hQ, ← pay8 v39 b Q hQ, ← hQ]
  pointwise [k0_pay10, hd]
  rfl

theorem pay13 : k0_pay13 (F := Ideal) (k0_pay8 v39) (k0_pay11 v39) k0_pay12 (ix3 b h q) = Spec.lse Q h q := by
  unfold Spec.lse Spec.lse2
  rw [← pay9 v39 b Q hQ, ← pay8 v39 b Q hQ]
  have e : ∀ (u v w : FVec Ideal S48x256x1 .f32), k0_pay13 (F := Ideal) u v w (ix3 b h q)
      = (u (ix3 (hd b h) q 0) + Ideal.div (v (ix3 (hd b h) q 0)) (w (ix3 (hd b h) q 0))) * Ideal.ofBits .f32 0x3F317218#32
        - Ideal.log (FloatOps.sitofp (F := Ideal) .f32 (IntOp.addi (BitVec.ofNat 32 q.val) 1#32)) := by
    intro u v w
    pointwise [k0_pay13]
    rfl
  rw [e]
  rfl

end

section

variable (v85 : FVec Ideal S48x256x128 .f32) (b : Fin 6) (r : Fin 256)

theorem pay14 (h : Fin 8) (d : Fin 128) :
    k0_pay14 (F := Ideal) v85 (ix2 (row b r) ⟨h.val * 128 + d.val, by omega⟩) = v85 (ix3 (hd b h) r d) := by
  pointwise [k0_pay14, row]
  rfl

theorem pay15 (j : Fin 1024) : k0_pay15 (F := Ideal) v85 (ix3 b r j) = k0_pay14 (F := Ideal) v85 (ix2 (row b r) j) := by
  pointwise [k0_pay15]
  rfl

theorem pay17 (j : Fin 1024) : k0_pay17 (F := Ideal) v85 (ix3 b r j)
    = Spec.clip4 (k0_pay14 (F := Ideal) v85 (ix2 (row b r) j)) := by
  pointwise [k0_pay17, k0_pay16]
  rfl

theorem pay18 (w : Vec Ideal S1024x4096 .fp8e4m3) (j : Fin 4096) : k0_pay18 (F := Ideal) v85 w (ix2 (row b r) j)
    = Spec.branch (fun x => k0_pay14 (F := Ideal) v85 (ix2 (row b r) x)) (fun x j => w (ix2 x j)) j := by
  pointwise [k0_pay18, k0_pay16]
  rfl

end

section

variable (p : FVec Ideal S1536x4096 .f32) (dy : Vec Ideal S1536x4096 .bf16) (ga be : Vec Ideal S1x4096 .f32)
  (xx : Vec Ideal S1536x4096 .bf16) (b : Fin 6) (r : Fin 256) (i : Fin 1536)

theorem pay21 (j : Fin 4096) : k0_pay21 (F := Ideal) (k0_pay19 dy) (k0_pay20 ga) (ix2 i j)
    = Spec.grad (fun k => dy (ix2 i k)) (fun k => ga (ix2 0 k)) j := by
  pointwise [k0_pay21, k0_pay19, k0_pay20]
  rfl

theorem pay22 (j : Fin 4096) : k0_pay22 (F := Ideal) p (ix2 i j) = p (ix2 i j) - Spec.mean (fun k => p (ix2 i k)) := by
  pointwise [k0_pay22]
  rfl

theorem pay23 : k0_pay23 (F := Ideal) p (k0_pay19 dy) (k0_pay20 ga) (ix2 i 0)
    = Spec.mean (fun k => Spec.grad (fun k => dy (ix2 i k)) (fun k => ga (ix2 0 k)) k
        * (p (ix2 i k) - Spec.mean (fun k => p (ix2 i k)))) := by
  simp only [← pay21, ← pay22]
  pointwise [k0_pay23]
  rfl

theorem pay24 : k0_pay24 (F := Ideal) (k0_pay19 dy) (k0_pay20 ga) (ix2 i 0)
    = Spec.mean (Spec.grad (fun k => dy (ix2 i k)) (fun k => ga (ix2 0 k))) := by
  rw [← funext (pay21 dy ga i)]
  pointwise [k0_pay24]
  rfl

theorem pay25 : k0_pay25 (F := Ideal) p (ix2 i 0) = Spec.rstd (fun k => p (ix2 i k)) := by
  unfold Spec.rstd
  simp only [← pay22]
  pointwise [k0_pay25]
  rfl

theorem pay26 (j : Fin 4096) : k0_pay26 (F := Ideal) p (ix2 i j) = Spec.zed (fun k => p (ix2 i k)) j := by
  unfold Spec.zed
  rw [← pay25, ← pay22]
  pointwise [k0_pay26]

theorem pay27 (j : Fin 4096) : k0_pay27 (F := Ideal) (k0_pay2 xx) p (k0_pay20 ga) be (ix3 b r j)
    = Spec.out (fun k => p (ix2 (row b r) k)) (fun k => xx (ix2 (row b r) k)) (fun k => ga (ix2 0 k))
        (fun k => be (ix2 0 k)) j := by
  unfold Spec.out
  rw [← pay26]
  pointwise [k0_pay27, k0_pay2, k0_pay20]
  rfl

theorem pay1 (j : Fin 4096) : k0_pay1 (F := Ideal) (k0_pay21 (k0_pay19 dy) (k0_pay20 ga))
      (k0_pay23 p (k0_pay19 dy) (k0_pay20 ga)) (k0_pay24 (k0_pay19 dy) (k0_pay20 ga)) (k0_pay25 p) (k0_pay26 p) (ix3 b r j)
    = Spec.gcode (fun k => p (ix2 (row b r) k)) (fun k => dy (ix2 (row b r) k)) (fun k => ga (ix2 0 k)) j := by
  unfold Spec.gcode
  rw [← pay26, ← pay24, ← pay23, ← pay25, ← pay21]
  generalize k0_pay23 (F := Ideal) p (k0_pay19 dy) (k0_pay20 ga) = a
  generalize k0_pay24 (F := Ideal) (k0_pay19 dy) (k0_pay20 ga) = c
  generalize k0_pay21 (F := Ideal) (k0_pay19 dy) (k0_pay20 ga) = d
  generalize k0_pay25 (F := Ideal) p = e
  generalize k0_pay26 (F := Ideal) p = f
  pointwise [k0_pay1]
  rfl

end

/-! ### The seven arrays -/

theorem zero2 : (![0, 0] : Fin 2 → Nat) = fun _ => 0 := by
  funext a; fin_cases a <;> rfl

theorem zero3 : (![0, 0, 0] : Fin 3 → Nat) = fun _ => 0 := by
  funext a; fin_cases a <;> rfl

theorem ld_0 {e : EltTy} (x : Vec Ideal S1536x4096 e) : View.ld x r0_0 = x := View.ld_unit_zero zero2 _ x
theorem ld_2 {e : EltTy} (x : Vec Ideal S4096x3072 e) : View.ld x r0_2 = x := View.ld_unit_zero zero2 _ x
theorem ld_3 {e : EltTy} (x : Vec Ideal S1536x64 e) : View.ld x r0_3 = x := View.ld_unit_zero zero2 _ x
theorem ld_7 {e : EltTy} (x : Vec Ideal S1024x4096 e) : View.ld x r0_7 = x := View.ld_unit_zero zero2 _ x
theorem ld_8 {e : EltTy} (x : Vec Ideal S1x4096 e) : View.ld x r0_8 = x := View.ld_unit_zero zero2 _ x

section

variable (x0 : Vec Ideal S1536x4096 .bf16) (x1 : Vec Ideal S4096x3072 .fp8e4m3) (x2 : Vec Ideal S1024x4096 .fp8e4m3)
  (x3 x4 : Vec Ideal S1x4096 .f32) (x5 x6 : Vec Ideal S1536x64 .f32) (x7 : Vec Ideal S1536x4096 .bf16)
  (b : Fin 6) (r : Fin 256)

/-- The rotated projections of batch entry `b`. -/
def Q (q : Fin 256) : Fin 24 → Fin 128 → EReal :=
  Spec.rot (Spec.proj (fun k => x0 (ix2 (row b q) k)) (fun k j => x1 (ix2 k j))) (fun l => x5 (ix2 (row b q) l))
      (fun l => x6 (ix2 (row b q) l))

/-- The attention output of a row, its heads one after the other. -/
def O (q : Fin 256) (x : Fin 1024) : EReal :=
  Spec.att (Q x0 x1 x5 x6 b) ⟨x.val / 128, by omega⟩ q ⟨x.val % 128, by omega⟩

/-- The output projection of a row. -/
def P (q : Fin 256) : Fin 4096 → EReal := Spec.branch (O x0 x1 x5 x6 b q) (fun x j => x2 (ix2 x j))

theorem v39_eq (g : Fin 24) (d : Fin 128) :
    k0_pay28 (F := Ideal) x0 x1 x2 x3 x4 x5 x6 x7 (ix3 (row b r) g d) = Q x0 x1 x5 x6 b r g d := by
  unfold k0_pay28
  simp only [ld_0, ld_2, ld_3, ld_7, ld_8]
  exact pay5 _ _ _ _ _ _ _ _

theorem o_eq (j : Fin 1024) : k0_pay14 (F := Ideal) (k0_pay29 x0 x1 x2 x3 x4 x5 x6 x7) (ix2 (row b r) j)
    = O x0 x1 x5 x6 b r j := by
  have e : j = ⟨(⟨j.val / 128, by omega⟩ : Fin 8).val * 128 + (⟨j.val % 128, by omega⟩ : Fin 128).val, by dsimp only; omega⟩ := by
    ext; dsimp only; omega
  conv_lhs => rw [e]
  rw [pay14]
  unfold k0_pay29 O
  exact pay10 _ b _ (v39_eq x0 x1 x2 x3 x4 x5 x6 x7 b) _ _ _

theorem p_eq (j : Fin 4096) : k0_pay30 (F := Ideal) x0 x1 x2 x3 x4 x5 x6 x7 (ix2 (row b r) j)
    = P x0 x1 x2 x5 x6 b r j := by
  unfold k0_pay30
  simp only [ld_0, ld_2, ld_3, ld_7, ld_8]
  rw [pay18]
  simp only [o_eq]
  rfl

theorem out8 (j : Fin 4096) : out0_8 (F := Ideal) x0 x1 x2 x3 x4 x5 x6 x7 (ix3 b r j)
    = Spec.out (P x0 x1 x2 x5 x6 b r) (fun k => x0 (ix2 (row b r) k)) (fun k => x3 (ix2 0 k)) (fun k => x4 (ix2 0 k)) j := by
  unfold out0_8 r0_1 k0_pay32
  rw [View.canon_unit_zero (zero3)]
  simp only [ld_0, ld_2, ld_3, ld_7, ld_8]
  rw [pay27]
  simp only [p_eq]

theorem out9 (h : Fin 8) : out0_9 (F := Ideal) x0 x1 x2 x3 x4 x5 x6 x7 (ix3 b h r)
    = Spec.lse (Q x0 x1 x5 x6 b) h r := by
  unfold out0_9 r0_5
  rw [View.canon_unit_zero (zero3)]
  exact pay13 _ b _ (v39_eq x0 x1 x2 x3 x4 x5 x6 x7 b) _ _

theorem out10 (j : Fin 1024) : out0_10 (F := Ideal) x0 x1 x2 x3 x4 x5 x6 x7 (ix3 b r j) = O x0 x1 x5 x6 b r j := by
  unfold out0_10 r0_6
  rw [View.canon_unit_zero (zero3), pay15, o_eq]

theorem out11 (g : Fin 24) (d : Fin 128) :
    out0_11 (F := Ideal) x0 x1 x2 x3 x4 x5 x6 x7 (ix3 b r ⟨g.val * 128 + d.val, by omega⟩) = Q x0 x1 x5 x6 b r g d := by
  rw [← v39_eq x0 x1 x2 x3 x4 x5 x6 x7 b r g d]
  unfold out0_11 r0_4
  rw [View.canon_unit_zero (zero3), pay6]
  rfl

theorem out12 (j : Fin 4096) : out0_12 (F := Ideal) x0 x1 x2 x3 x4 x5 x6 x7 (ix3 b r j)
    = Spec.clip4 (x0 (ix2 (row b r) j)) := by
  unfold out0_12 r0_1
  rw [View.canon_unit_zero (zero3)]
  simp only [ld_0, ld_2, ld_3, ld_7, ld_8]
  rw [pay4]

theorem out13 (j : Fin 1024) : out0_13 (F := Ideal) x0 x1 x2 x3 x4 x5 x6 x7 (ix3 b r j)
    = Spec.clip4 (O x0 x1 x5 x6 b r j) := by
  unfold out0_13 r0_6
  rw [View.canon_unit_zero (zero3), pay17, o_eq]

theorem out14 (j : Fin 4096) : out0_14 (F := Ideal) x0 x1 x2 x3 x4 x5 x6 x7 (ix3 b r j)
    = Spec.gcode (P x0 x1 x2 x5 x6 b r) (fun k => x7 (ix2 (row b r) k)) (fun k => x3 (ix2 0 k)) j := by
  unfold out0_14 r0_1 k0_pay31 k0_pay32
  rw [View.canon_unit_zero (zero3)]
  simp only [ld_0, ld_2, ld_3, ld_7, ld_8]
  rw [pay1]
  simp only [p_eq]

end

end Cert.MainRefIdeal.Val

end
-- ==== Proof.KAttn.lean ====
/- The kernel's attention, read. A head's 256 queries are done in two halves of 128: the first half against the first 128
   keys, under the causal mask; the second against all 256, the mask on the last 128. -/
module

public import proofs.«01_k».proof.Proof.Body
public import proofs.«01_k».proof.Proof.Spec
public import proofs.«01_k».proof.Proof.RefVal
public import Idealize.ShloMosaic.Lib.WholeRead
public import Idealize.ShloMosaic.Lib.Pointwise

@[expose] public section

set_option maxRecDepth 16384

noncomputable section

namespace Cert.MainIdeal.Val

open Idealize.ShloMosaic Idealize.ShloMosaic.TcCoe
open Cert.MainIdeal Cert.MainIdeal.Gen

section

variable (q k v : Vec Ideal S1x256x128 .bf16) (Q : Fin 256 → Fin 24 → Fin 128 → EReal) (h : Fin 8)
  (hq : ∀ r d, q (ix3 0 r d) = Q r ⟨h.val, by omega⟩ d) (hk : ∀ r d, k (ix3 0 r d) = Q r ⟨8 + h.val, by omega⟩ d)
  (hv : ∀ r d, v (ix3 0 r d) = Q r ⟨16 + h.val, by omega⟩ d)

/-- The query's row, in the first half. -/
def lo (r : Fin 128) : Fin 256 := ⟨r.val, by omega⟩
/-- The query's row, in the second half. -/
def hi (r : Fin 128) : Fin 256 := ⟨128 + r.val, by omega⟩

theorem mask_apply (r x : Fin 128) (a b : EReal) :
    Scalar.select (k0_pay452 (ix2 r x)) a b = if x.val ≤ r.val then a else b := by
  rw [← MainRefIdeal.Val.mask r.val x.val (by omega) (by omega)]
  pointwise [k0_pay452]

include hq hk

theorem logits (r x : Fin 256) : k0_pay455 (F := Ideal) q k (ix2 r x)
    = Spec.score Q h r x * Ideal.ofBits .f32 0x3D8293EE#32 := by
  unfold Spec.score
  simp only [← hq, ← hk]
  pointwise [k0_pay455]

/-- The masked logits of the first half. -/
def tl : FVec Ideal S128x128 .f32 := k0_pay457 k0_pay452 (k0_pay456 q k) (FloatOps.ofBits FTy.f32 0xFF800000#32)

theorem tl_apply (r x : Fin 128) : tl q k (ix2 r x) = Spec.hlogit Q h (lo r) (lo x) := by
  unfold tl Spec.hlogit
  pointwise [k0_pay457, k0_pay456]
  rw [mask_apply, logits q k Q h hq hk]
  rw [show Ideal.ofBits FTy.f32 0xFF800000#32 = ⊥ from Spec.neginf_eq]
  rfl

theorem tm_apply (r : Fin 128) :
    k0_pay459 (F := Ideal) k0_pay452 (k0_pay456 q k) (FloatOps.ofBits FTy.f32 0xFF800000#32) (ix2 r 0)
      = Spec.hshift Q h (lo r) := by
  unfold Spec.hshift
  rw [Spec.fold_top Q h (lo r) r.isLt]
  rw [← Spec.neginf_eq]
  have e := tl_apply q k Q h hq hk r
  unfold lo at e
  simp only [lo, ← e]
  unfold k0_pay459
  generalize hg : k0_pay457 (F := Ideal) k0_pay452 (k0_pay456 q k) (FloatOps.ofBits FTy.f32 0xFF800000#32) = g
  have hg' : tl q k = g := hg
  rw [hg']
  pointwise []

theorem te_apply (r x : Fin 128) :
    k0_pay460 (F := Ideal) k0_pay452 (k0_pay456 q k) (FloatOps.ofBits FTy.f32 0xFF800000#32) (ix2 r x)
      = Spec.wt Q h (lo r) (lo x) := by
  unfold Spec.wt
  rw [← tl_apply q k Q h hq hk, ← tm_apply q k Q h hq hk]
  pointwise [k0_pay460]
  rfl

theorem td_apply (r : Fin 128) :
    k0_pay461 (F := Ideal) k0_pay452 (k0_pay456 q k) (FloatOps.ofBits FTy.f32 0xFF800000#32) (ix2 r 0)
      = ∑ x, Spec.wt Q h (lo r) x * Spec.wt Q h (lo r) x := by
  rw [Spec.sum_top (lo r) (fun x => Spec.wt Q h (lo r) x * Spec.wt Q h (lo r) x) r.isLt
    (fun x hx => by rw [Spec.wt_of_lt Q h _ hx, zero_mul])]
  have e := te_apply q k Q h hq hk r
  unfold lo at e
  simp only [lo, ← e]
  pointwise [k0_pay461]

include hv

theorem to_apply (r d : Fin 128) :
    k0_pay463 (F := Ideal) k0_pay452 (k0_pay454 v) (k0_pay456 q k) (FloatOps.ofBits FTy.f32 0xFF800000#32) (ix2 r d)
      = Spec.att Q h (lo r) d := by
  rw [Spec.att_eq, ← td_apply q k Q h hq hk r]
  rw [Spec.sum_top (lo r) (fun x => Spec.wt Q h (lo r) x * Q x ⟨16 + h.val, by omega⟩ d) r.isLt
    (fun x hx => by rw [Spec.wt_of_lt Q h _ hx, zero_mul])]
  have e := te_apply q k Q h hq hk r
  unfold lo at e
  simp only [lo, ← e, ← hv]
  pointwise [k0_pay463, k0_pay462, k0_pay454]

omit hv

/-- The masked logits of the second half. -/
theorem bl_apply (r : Fin 128) (x : Fin 256) : k0_pay458 (F := Ideal) k0_pay452 (k0_pay455 q k) (ix2 r x)
    = Spec.hlogit Q h (hi r) x := by
  pointwise [k0_pay458]
  unfold Spec.hlogit
  by_cases hx : x.val < 128
  · simp only [hx, ↓reduceDIte]
    rw [if_pos (show x ≤ hi r by show x.val ≤ 128 + r.val; omega), logits q k Q h hq hk]
    rfl
  · simp only [hx, ↓reduceDIte]
    rw [mask_apply, logits q k Q h hq hk]
    have e : (128 + (x.val - 128)) = x.val := by omega
    have e2 : (x.val - 128 ≤ r.val) ↔ x ≤ hi r := by show _ ↔ x.val ≤ 128 + r.val; omega
    simp only [e2, e]
    rw [show Ideal.ofBits FTy.f32 0xFF800000#32 = ⊥ from Spec.neginf_eq]
    rfl

omit hq hk

variable (s : FVec Ideal S128x256 .f32) (hs : ∀ r x, s (ix2 r x) = Spec.hlogit Q h (hi r) x)
include hs

theorem bm_apply (r : Fin 128) : k0_pay470 (F := Ideal) s (ix2 r 0) = Spec.hshift Q h (hi r) := by
  unfold Spec.hshift
  rw [← Spec.neginf_eq]
  simp only [← hs]
  pointwise [k0_pay470]

theorem be_apply (r : Fin 128) (x : Fin 256) : k0_pay471 (F := Ideal) s (ix2 r x) = Spec.wt Q h (hi r) x := by
  unfold Spec.wt
  rw [← bm_apply Q h s hs, ← hs]
  pointwise [k0_pay471]
  rfl

theorem bd_apply (r : Fin 128) : k0_pay472 (F := Ideal) s (ix2 r 0) = ∑ x, Spec.wt Q h (hi r) x * Spec.wt Q h (hi r) x := by
  simp only [← be_apply Q h s hs]
  pointwise [k0_pay472]

include hv

theorem bo_apply (r d : Fin 128) : k0_pay474 (F := Ideal) (k0_pay454 v) s (ix2 r d) = Spec.att Q h (hi r) d := by
  rw [Spec.att_eq, ← bd_apply Q h s hs r]
  simp only [← be_apply Q h s hs, ← hv]
  pointwise [k0_pay474, k0_pay473, k0_pay454]

omit hv hs

theorem two_mul_apply (m d : FVec Ideal S128x1 .f32) (a b : EReal) (r : Fin 128) (hm : m (ix2 r 0) = a) (hd : d (ix2 r 0) = b) :
    k0_pay469 m d (ix2 r 0) = Ideal.ofBits .f32 0x40000000#32 * a
      + Ideal.div (Ideal.log b) (Ideal.log (Ideal.ofBits .f32 0x40000000#32)) := by
  subst hm hd
  generalize htwo : Ideal.ofBits .f32 0x40000000#32 = two
  have e : ∀ two : EReal, (addf (mulf (broadcast S128x1 two) m) (divf (log d) (log (broadcast S128x1 two))) : FVec Ideal S128x1 .f32) (ix2 r 0)
      = two * m (ix2 r 0) + Ideal.div (Ideal.log (d (ix2 r 0))) (Ideal.log two) := by
    intro two
    pointwise []
  rw [← htwo]
  exact e _

end

/-! The eight heads of a block of 3072 columns. -/

section

variable (c : Dev nD) (i : grid0.Coords) (M : Mems) (u : Vec Ideal S1x256x3072 .bf16)

/-- 128 columns of the rotated queries, keys and values. -/
def cut (g : Fin 24) : Vec Ideal S1x256x128 .bf16 :=
  View.readAt (Elt Ideal) M.arg14.view (Rect.unit (s := S1x256x3072) ![0, 0, 128 * g.val] ![1, 256, 128]
    (by intro a; have := g.isLt; fin_cases a <;> simp <;> omega)).toLoadRect (M.harg14.unread u)

theorem cut_apply (Q : Fin 256 → Fin 24 → Fin 128 → EReal)
    (hu : ∀ (r : Fin 256) (g : Fin 24) (d : Fin 128), u (ix3 0 r ⟨g.val * 128 + d.val, by omega⟩) = Q r g d)
    (g : Fin 24) (r : Fin 256) (d : Fin 128) : cut M u g (ix3 0 r d) = Q r g d := by
  rw [← hu]
  unfold cut
  simp only [Memref.IsWhole.readAt_unread]
  pointwise []
  exact congrArg (fun j => u (ix3 0 r j)) (Fin.ext (by show 128 * g.val + d.val = g.val * 128 + d.val; omega))

/-- Head `h`'s queries, keys and values. -/
def qs (h : Fin 8) := cut M u ⟨h.val, by omega⟩
def ks (h : Fin 8) := cut M u ⟨8 + h.val, by omega⟩
def vs (h : Fin 8) := cut M u ⟨16 + h.val, by omega⟩

/-- The logits of the second half of head `h`'s queries. -/
def bot (h : Fin 8) : FVec Ideal S128x256 .f32 := k0_pay458 k0_pay452 (k0_pay455 (qs M u h) (ks M u h))

/-- The two pieces of head `h` in a buffer of 1024 columns. -/
def rTop (h : Fin 8) : Rect S1x256x1024 := Rect.unit (s := S1x256x1024) ![0, 0, 128 * h.val] ![1, 128, 128]
  (by intro a; have := h.isLt; fin_cases a <;> simp <;> omega)
def rBot (h : Fin 8) : Rect S1x256x1024 := Rect.unit (s := S1x256x1024) ![0, 128, 128 * h.val] ![1, 128, 128]
  (by intro a; have := h.isLt; fin_cases a <;> simp <;> omega)

def p13 (h : Fin 8) : List (View.Piece (Elt Ideal) S1x256x1024 .bf16) :=
  [⟨rBot h, k0_pay476 (k0_pay454 (vs M u h)) (bot M u h)⟩,
   ⟨rTop h, k0_pay465 k0_pay452 (k0_pay454 (vs M u h)) (k0_pay456 (qs M u h) (ks M u h)) (FloatOps.ofBits FTy.f32 0xFF800000#32)⟩]

def p17 (h : Fin 8) : List (View.Piece (Elt Ideal) S1x256x1024 .fp8e4m3) :=
  [⟨rBot h, k0_pay477 (k0_pay454 (vs M u h)) (bot M u h)⟩,
   ⟨rTop h, k0_pay466 k0_pay452 (k0_pay454 (vs M u h)) (k0_pay456 (qs M u h) (ks M u h)) (FloatOps.ofBits FTy.f32 0xFF800000#32)⟩]

theorem L13_eq : L13 c i M u = p13 M u 7 ++ p13 M u 6 ++ p13 M u 5 ++ p13 M u 4 ++ p13 M u 3 ++ p13 M u 2 ++ p13 M u 1 ++ p13 M u 0 := by
  sl_kernel_rfl

theorem L17_eq : L17 c i M u = p17 M u 7 ++ p17 M u 6 ++ p17 M u 5 ++ p17 M u 4 ++ p17 M u 3 ++ p17 M u 2 ++ p17 M u 1 ++ p17 M u 0 := by
  sl_kernel_rfl

/-- The second half's maximum and denominator, and the first half's log-sum-exp in base 2. -/
def mB (h : Fin 8) : FVec Ideal S128x1 .f32 := k0_pay470 (bot M u h)
def dB (h : Fin 8) : FVec Ideal S128x1 .f32 := k0_pay472 (bot M u h)
def lT (h : Fin 8) : FVec Ideal S128x1 .f32 :=
  k0_pay469 (k0_pay459 k0_pay452 (k0_pay456 (qs M u h) (ks M u h)) (FloatOps.ofBits FTy.f32 0xFF800000#32))
    (k0_pay461 k0_pay452 (k0_pay456 (qs M u h) (ks M u h)) (FloatOps.ofBits FTy.f32 0xFF800000#32))

/-- The column's number. -/
def lane : IVec S256x128 32 := iota .tc S256x128 32 [1] iota_S256x128_d1_w32

/-- The log-sum-exps of the first `n` heads, head `h` in column `h`. -/
def cols : ℕ → FVec Ideal S256x128 .f32
  | 0 => k0_pay453
  | n + 1 => if h : n < 8 then k0_pay506 lane (cols n) (lT M u ⟨n, h⟩) (k0_pay469 (mB M u ⟨n, h⟩) (dB M u ⟨n, h⟩)) (BitVec.ofNat 32 n)
      else cols n

theorem L11_eq : L11 c i M u = [⟨Rect.unit (s := S1x8x256) ![0, 0, 0] S1x8x256.size (by decide +kernel),
    k0_pay668 lane (cols M u 7) (lT M u 7) (mB M u 7) (dB M u 7)⟩] := by
  sl_kernel_rfl

variable (Q : Fin 256 → Fin 24 → Fin 128 → EReal)
  (hu : ∀ (r : Fin 256) (g : Fin 24) (d : Fin 128), u (ix3 0 r ⟨g.val * 128 + d.val, by omega⟩) = Q r g d)
include hu

theorem bot_apply (h : Fin 8) (r : Fin 128) (x : Fin 256) : bot M u h (ix2 r x) = Spec.hlogit Q h (hi r) x :=
  bl_apply _ _ Q h (fun r d => cut_apply M u Q hu _ r d) (fun r d => cut_apply M u Q hu _ r d) r x

theorem oTop_apply (h : Fin 8) (r d : Fin 128) : k0_pay463 (F := Ideal) k0_pay452 (k0_pay454 (vs M u h))
    (k0_pay456 (qs M u h) (ks M u h)) (FloatOps.ofBits FTy.f32 0xFF800000#32) (ix2 r d) = Spec.att Q h (lo r) d :=
  to_apply _ _ _ Q h (fun r d => cut_apply M u Q hu _ r d) (fun r d => cut_apply M u Q hu _ r d)
    (fun r d => cut_apply M u Q hu _ r d) r d

theorem oBot_apply (h : Fin 8) (r d : Fin 128) : k0_pay474 (F := Ideal) (k0_pay454 (vs M u h)) (bot M u h) (ix2 r d)
    = Spec.att Q h (hi r) d :=
  bo_apply _ Q h (fun r d => cut_apply M u Q hu _ r d) _ (bot_apply M u Q hu h) r d

/-- The attention output, over all 1024 columns. -/
def attAt (y : S1x256x1024.Idx) : EReal := Spec.att Q ⟨(y 2).val / 128, by have := (y 2).isLt; show _ < 8; have h : (y 2).val < 1024 := this; omega⟩
  ⟨(y 1).val, (y 1).isLt⟩ ⟨(y 2).val % 128, by omega⟩

omit hu in
theorem attAt_top (h : Fin 8) (x : (rTop h).shape.Idx) :
    attAt Q ((rTop h).emb x) = Spec.att Q h (lo ⟨(x 1).val, (x 1).isLt⟩) ⟨(x 2).val, (x 2).isLt⟩ := by
  have h2 : (x 2).val < 128 := (x 2).isLt
  have e1 : ((rTop h).emb x 1).val = 0 + 1 * (x 1).val := rfl
  have e2 : ((rTop h).emb x 2).val = 128 * h.val + 1 * (x 2).val := rfl
  unfold attAt lo
  congr 1
  · exact Fin.ext (by show _ / 128 = _; omega)
  · exact Fin.ext (by show ((rTop h).emb x 1).val = (x 1).val; omega)
  · exact Fin.ext (by show _ % 128 = (x 2).val; omega)

omit hu in
theorem attAt_bot (h : Fin 8) (x : (rBot h).shape.Idx) :
    attAt Q ((rBot h).emb x) = Spec.att Q h (hi ⟨(x 1).val, (x 1).isLt⟩) ⟨(x 2).val, (x 2).isLt⟩ := by
  have h2 : (x 2).val < 128 := (x 2).isLt
  have e1 : ((rBot h).emb x 1).val = 128 + 1 * (x 1).val := rfl
  have e2 : ((rBot h).emb x 2).val = 128 * h.val + 1 * (x 2).val := rfl
  unfold attAt hi
  congr 1
  · exact Fin.ext (by show _ / 128 = _; omega)
  · exact Fin.ext (by show ((rBot h).emb x 1).val = 128 + (x 1).val; omega)
  · exact Fin.ext (by show _ % 128 = (x 2).val; omega)

theorem p13_apply (h : Fin 8) : ∀ p ∈ p13 M u h, ∀ x : p.1.shape.Idx, p.2 x = attAt Q (p.1.emb x) := by
  intro p hp x
  simp only [p13, List.mem_cons, List.not_mem_nil, or_false] at hp
  obtain rfl | rfl := hp
  · refine Eq.trans ?_ (attAt_bot Q h x).symm
    rw [← oBot_apply M u Q hu]
    idx_vars x
    pointwise [k0_pay476]
  · refine Eq.trans ?_ (attAt_top Q h x).symm
    rw [← oTop_apply M u Q hu]
    idx_vars x
    pointwise [k0_pay465]

theorem p17_apply (h : Fin 8) : ∀ p ∈ p17 M u h, ∀ x : p.1.shape.Idx, p.2 x = Spec.clip4 (attAt Q (p.1.emb x)) := by
  intro p hp x
  simp only [p17, List.mem_cons, List.not_mem_nil, or_false] at hp
  obtain rfl | rfl := hp
  · refine Eq.trans ?_ (congrArg Spec.clip4 (attAt_bot Q h x).symm)
    rw [← oBot_apply M u Q hu]
    unfold Spec.clip4
    idx_vars x
    pointwise [k0_pay477]
  · refine Eq.trans ?_ (congrArg Spec.clip4 (attAt_top Q h x).symm)
    rw [← oTop_apply M u Q hu]
    unfold Spec.clip4
    idx_vars x
    pointwise [k0_pay466]

/-- The attention output the kernel stores. -/
theorem oattn_apply (y : S1x256x1024.Idx) : View.canon (L13 c i M u) y = attAt Q y := by
  refine View.canon_apply_of_pieces (attAt Q) _ ?_ y (cover13 c i M u y)
  intro p hp
  rw [L13_eq] at hp
  simp only [List.mem_append] at hp
  obtain ((((((hp | hp) | hp) | hp) | hp) | hp) | hp) | hp := hp <;> exact p13_apply M u Q hu _ p hp

/-- Its codes. -/
theorem ocodes_apply (y : S1x256x1024.Idx) : View.canon (L17 c i M u) y = Spec.clip4 (attAt Q y) := by
  refine View.canon_apply_of_pieces (fun y => Spec.clip4 (attAt Q y)) _ ?_ y (cover17 c i M u y)
  intro p hp
  rw [L17_eq] at hp
  simp only [List.mem_append] at hp
  obtain ((((((hp | hp) | hp) | hp) | hp) | hp) | hp) | hp := hp <;> exact p17_apply M u Q hu _ p hp

/-- The log-sum-exp of the first half, and of the second. -/
theorem lT_apply (h : Fin 8) (r : Fin 128) : lT M u h (ix2 r 0) = Spec.lse2 Q h (lo r) := by
  rw [Spec.lse2_eq]
  exact two_mul_apply _ _ _ _ r
    (tm_apply _ _ Q h (fun r d => cut_apply M u Q hu _ r d) (fun r d => cut_apply M u Q hu _ r d) r)
    (td_apply _ _ Q h (fun r d => cut_apply M u Q hu _ r d) (fun r d => cut_apply M u Q hu _ r d) r)

theorem lB_apply (h : Fin 8) (r : Fin 128) : k0_pay469 (mB M u h) (dB M u h) (ix2 r 0) = Spec.lse2 Q h (hi r) := by
  rw [Spec.lse2_eq]
  exact two_mul_apply _ _ _ _ r (bm_apply Q h _ (bot_apply M u Q hu h) r) (bd_apply Q h _ (bot_apply M u Q hu h) r)

omit hu in
theorem column (l : Fin 128) (h : Fin 8) :
    IntOp.cmpi .eq (BitVec.ofNat 32 l.val) (BitVec.ofNat 32 h.val) = if l.val = h.val then 1#1 else 0#1 := by
  revert h; revert l; decide +kernel

theorem both_apply (h : Fin 8) (hn : h.val < 8) (acc : FVec Ideal S256x128 .f32) (r : Fin 256) (l : Fin 128) :
    k0_pay506 lane acc (lT M u h) (k0_pay469 (mB M u h) (dB M u h)) (BitVec.ofNat 32 h.val) (ix2 r l)
      = if l.val = h.val then Spec.lse2 Q h r else acc (ix2 r l) := by
  have ht := lT_apply M u Q hu h
  have hb := lB_apply M u Q hu h
  generalize lT M u h = t at ht ⊢
  generalize k0_pay469 (mB M u h) (dB M u h) = b at hb ⊢
  unfold lane
  pointwise [k0_pay506]
  rw [column l h]
  by_cases e : l.val = h.val
  · simp only [e, ↓reduceIte]
    refine (Scalar.select_of_eq_one rfl _ _).trans ?_
    by_cases hr : r.val < 128
    · simp only [hr, ↓reduceDIte]
      exact ht ⟨r.val, hr⟩
    · simp only [hr, ↓reduceDIte]
      refine (hb _).trans (congrArg (Spec.lse2 Q h) (Fin.ext ?_))
      show 128 + (r.val - 128) = r.val
      omega
  · simp only [e, ↓reduceIte]
    exact Scalar.select_of_ne_one (by decide) _ _

theorem cols_apply (n : ℕ) (hn : n ≤ 8) (r : Fin 256) (h : Fin 8) (hh : h.val < n) :
    cols M u n (ix2 r ⟨h.val, by omega⟩) = Spec.lse2 Q h r := by
  induction n with
  | zero => omega
  | succ n ih =>
    have hlt : n < 8 := by omega
    simp only [cols, hlt, ↓reduceDIte]
    refine (both_apply M u Q hu ⟨n, hlt⟩ hlt _ r _).trans ?_
    by_cases e : h.val = n
    · subst e; exact if_pos rfl
    · exact (if_neg e).trans (ih (by omega) (by omega))

omit hu in
theorem last_apply (acc : FVec Ideal S256x128 .f32) (t m d : FVec Ideal S128x1 .f32) (h : Fin 8) (r : Fin 256) :
    k0_pay668 lane acc t m d (ix3 0 h r) = k0_pay506 lane acc t (k0_pay469 m d) 7#32 (ix2 r ⟨h.val, by omega⟩)
        * Ideal.ofBits .f32 0x3F317218#32
      - Ideal.log (FloatOps.sitofp (F := Ideal) .f32 (IntOp.addi (BitVec.ofNat 32 r.val) 1#32)) := by
  have e := fun r => two_mul_apply m d _ _ r rfl rfl
  generalize k0_pay469 m d = b at e ⊢
  pointwise [k0_pay668, k0_pay506]
  simp only [e]

/-- The log-sum-exps the kernel stores. -/
theorem lse_apply (h : Fin 8) (r : Fin 256) : View.canon (L11 c i M u) (ix3 0 h r) = Spec.lse Q h r := by
  rw [L11_eq, View.canon_unit_zero (by decide)]
  unfold Spec.lse
  rw [← cols_apply M u Q hu 8 (by omega) r h h.isLt]
  exact last_apply _ _ _ _ h r

end

end Cert.MainIdeal.Val

end
-- ==== Proof.KCodes.lean ====
/- The kernel's codes of the input and rotated projections, read: the codes in eight column blocks of 512, the projections in
   24 column blocks of 128, each a head's queries, keys or values. -/
module

public import proofs.«01_k».proof.Proof.Body
public import proofs.«01_k».proof.Proof.Spec
public import Idealize.ShloMosaic.Lib.WholeRead
public import Idealize.ShloMosaic.Lib.Pointwise

@[expose] public section

set_option maxRecDepth 16384

noncomputable section

namespace Cert.MainIdeal.Val

open Idealize.ShloMosaic Idealize.ShloMosaic.TcCoe
open Cert.MainIdeal Cert.MainIdeal.Gen

variable (c : Dev nD) (i : grid0.Coords) (M : Mems)

/-- An index of a rank-three shape, by its coordinates. -/
theorem idx3_of {a b n : Nat} (x : (⟨3, ![a, b, n]⟩ : Shape).Idx) (i : Fin a) (j : Fin b) (k : Fin n)
    (h0 : (x 0).val = i.val) (h1 : (x 1).val = j.val) (h2 : (x 2).val = k.val) : x = ix3 i j k := by
  funext t
  fin_cases t
  · exact Fin.ext h0
  · exact Fin.ext h1
  · exact Fin.ext h2

/-- The codes of the input: every element clipped. -/
theorem cod16_apply (u1 : Vec Ideal S1x256x4096 .bf16) (u6 : Vec Ideal S1x64x256 .f32) (x : S1x256x4096.Idx) :
    cod16 (F := Ideal) c i M u1 u6 x = Spec.clip4 (u1 x) := by
  have h := cover16 (F := Ideal) c i M u1 u6 x
  unfold cod16
  unfold L16 runA at h ⊢
  dsimp only at h ⊢
  canon_tiles x h using h
  all_goals clear h
  all_goals (
    idx_vars x
    pointwise [k0_pay400, k0_pay401, k0_pay402, k0_pay403, k0_pay404, k0_pay405, k0_pay406, k0_pay407, k0_pay408, k0_pay409,
      k0_pay410, k0_pay411, runA.sl.r, runA.sl.r_1, runA.sl.cst_38]
    unfold Spec.clip4
    simp only [Memref.IsWhole.readAt_unread]
    pointwise []
    refine congrArg (fun y => min _ (max _ (u1 y))) (idx3_of x _ _ _ ?_ h1 h2).symm
    rw [h0]; exact Nat.lt_one_iff.mp x0_lt)

/-- A tile of 512 columns of the projection. -/
theorem tile (v109 : Vec Ideal S1x256x4096 .fp8e4m3) (v111 : Vec Ideal S4096x512 .fp8e4m3) (r : Fin 256) (j : Fin 512) :
    k0_pay415 (F := Ideal) v109 v111 (ix2 r j)
      = (∑ k, v109 (ix3 0 r k) * v111 (ix2 k j)) * Ideal.ofBits .f32 0x3C800000#32 := by
  pointwise [k0_pay415]

theorem tile1 : @k0_pay421 Ideal _ = k0_pay415 := rfl
theorem tile2 : @k0_pay427 Ideal _ = k0_pay415 := rfl
theorem tile3 : @k0_pay432 Ideal _ = k0_pay415 := rfl
theorem tile4 (x) : k0_pay441 (k0_pay440 (F := Ideal) x) = k0_pay415 x := rfl
theorem tile5 : @k0_pay446 Ideal _ = k0_pay415 := rfl

/-- The cosines, repeated over both halves of a head. -/
theorem cosines (v : Vec Ideal S1x64x256 .f32) (r : Fin 256) (d : Fin 128) :
    k0_pay413 (F := Ideal) (k0_pay412 v) (ix2 r d) = v (ix3 0 ⟨d.val % 64, by omega⟩ r) := by
  pointwise [k0_pay413, k0_pay412]
  by_cases h : d.val < 64
  · simp only [h, ↓reduceDIte, show d.val % 64 = d.val by omega]
  · simp only [h, ↓reduceDIte, show d.val % 64 = d.val - 64 by omega]

/-- The sines, negated over the first half of a head. -/
theorem sines (v : Vec Ideal S1x64x256 .f32) (r : Fin 256) (d : Fin 128) :
    k0_pay414 (F := Ideal) v (ix2 r d) = if d.val < 64 then 0 - v (ix3 0 ⟨d.val % 64, by omega⟩ r)
      else v (ix3 0 ⟨d.val % 64, by omega⟩ r) := by
  pointwise [k0_pay414]
  by_cases h : d.val < 64
  · simp only [h, ↓reduceDIte, ↓reduceIte, show d.val % 64 = d.val by omega]
  · simp only [h, ↓reduceDIte, ↓reduceIte, show d.val % 64 = d.val - 64 by omega]

/-- A rotated column, as a product by the cosine plus the other half's by the signed sine. -/
theorem rope_of (P : Fin 3072 → EReal) (co si : Fin 64 → EReal) (n j1 j2 : Fin 3072) (d : Fin 128) (hn : n.val < 2048)
    (h1 : j1.val = n.val) (hd : n.val % 128 = d.val) (h2 : j2.val = n.val / 128 * 128 + (d.val + 128 - 64) % 128) :
    P j1 * co ⟨d.val % 64, by omega⟩
        + P j2 * (if d.val < 64 then 0 - si ⟨d.val % 64, by omega⟩ else si ⟨d.val % 64, by omega⟩)
      = Spec.rot P co si ⟨n.val / 128, by omega⟩ ⟨n.val % 128, by omega⟩ := by
  unfold Spec.rot
  have hg : n.val / 128 < 16 := by omega
  by_cases hdl : d.val < 64
  · have hdn : n.val % 128 < 64 := by omega
    simp only [hg, hdl, hdn, ↓reduceDIte, ↓reduceIte]
    rw [zero_sub, mul_neg, ← sub_eq_add_neg]
    congr 3 <;> apply Fin.ext <;> dsimp only <;> omega
  · have hdn : ¬ n.val % 128 < 64 := by omega
    simp only [hg, hdl, hdn, ↓reduceDIte, ↓reduceIte]
    congr 3 <;> apply Fin.ext <;> dsimp only <;> omega

/-- A column of the values: left as projected. -/
theorem keep_of (P : Fin 3072 → EReal) (co si : Fin 64 → EReal) (n j1 : Fin 3072) (hn : ¬ n.val < 2048)
    (h1 : j1.val = n.val) :
    P j1 = Spec.rot P co si ⟨n.val / 128, by omega⟩ ⟨n.val % 128, by omega⟩ := by
  unfold Spec.rot
  have hg : ¬ n.val / 128 < 16 := by omega
  simp only [hg, ↓reduceIte]
  congr 1
  apply Fin.ext; dsimp only; omega

theorem qkv14_apply (u1 : Vec Ideal S1x256x4096 .bf16) (u6 : Vec Ideal S1x64x256 .f32) (u2 : Vec Ideal S4096x3072 .fp8e4m3)
    (u7 : Vec Ideal S1x64x256 .f32) (x : S1x256x3072.Idx) (r : Fin 256) (n : Fin 3072) (hr : (x 1).val = r.val)
    (hn : (x 2).val = n.val) :
    qkv14 (F := Ideal) c i M u1 u6 u2 u7 x
      = Spec.rot (Spec.proj (fun k => u1 (ix3 0 r k)) (fun k j => u2 (ix2 k j))) (fun l => u6 (ix3 0 l r))
          (fun l => u7 (ix3 0 l r)) ⟨n.val / 128, by omega⟩ ⟨n.val % 128, by omega⟩ := by
  have h := cover14 (F := Ideal) c i M u1 u6 u2 u7 x
  unfold qkv14
  unfold L14 runB at h ⊢
  dsimp only at h ⊢
  canon_tiles x h using h
  all_goals clear h
  all_goals try clear h0 x0_lt x1_lt
  all_goals (
    idx_vars x
    rw [hr] at h1
    rw [hn] at h2
    obtain rfl := Fin.ext h1
    try unfold w100 runA
    pointwise [k0_pay416, k0_pay417, tile, k0_pay418, k0_pay419, k0_pay420, tile1, k0_pay422, k0_pay423, k0_pay424, k0_pay425,
      k0_pay426, tile2, k0_pay428, k0_pay429, k0_pay430, k0_pay431, tile3, k0_pay433, k0_pay434, k0_pay435, k0_pay436,
      k0_pay437, k0_pay438, k0_pay439, tile4, k0_pay442, k0_pay443, k0_pay444, k0_pay445, tile5, k0_pay447, k0_pay448,
      k0_pay449, k0_pay450, k0_pay451, runB.sl.r, runB.sl.r_1, runB.sl.r_2, runB.sl.r_3, runB.sl.r_4, runB.sl.r_5,
      runB.sl.r_6, runB.sl.r_7, runB.sl.r_8, runB.sl.r_9, runB.sl.r_10, runB.sl.r_11, runB.sl.r_12, runA.sl.r_2, sines, cosines]
    simp only [Memref.IsWhole.readAt_unread]
    pointwise [cod16_apply])
  all_goals first
  | exact rope_of (Spec.proj (fun k => u1 (ix3 0 r k)) (fun k j => u2 (ix2 k j))) (fun l => u6 (ix3 0 l r))
          (fun l => u7 (ix3 0 l r)) n _ _ x2 (by omega) (by first | omega | (dsimp only; omega) | dsimp only) (by omega) (by first | omega | (dsimp only; omega) | dsimp only)
  | exact keep_of (Spec.proj (fun k => u1 (ix3 0 r k)) (fun k j => u2 (ix2 k j))) (fun l => u6 (ix3 0 l r))
          (fun l => u7 (ix3 0 l r)) n _ (by omega) (by first | omega | (dsimp only; omega) | dsimp only)

end Cert.MainIdeal.Val

end
-- ==== Proof.KLn.lean ====
/- The kernel's output projection and its loop over rows, read: the layer norm's row statistics are sums of 32 chunks
   of 128 columns, and each trip of the loop writes 32 rows of the output and of the gradient's codes. -/
module

public import proofs.«01_k».proof.Proof.Body
public import proofs.«01_k».proof.Proof.Spec
public import proofs.«01_k».proof.Proof.KCodes
public import Idealize.ShloMosaic.Lib.WholeRead
public import Idealize.ShloMosaic.Lib.Pointwise

@[expose] public section

set_option maxRecDepth 65536

noncomputable section

namespace Cert.MainIdeal.Val

open Idealize.ShloMosaic Idealize.ShloMosaic.TcCoe
open Cert.MainIdeal Cert.MainIdeal.Gen

variable (c : Dev nD) (i : grid0.Coords) (M : Mems)

/-! ### One trip of the loop -/

/-- The first row of trip `k`. -/
def base (k : Fin k0_t1_loop.trips) : ℕ := k0_off1 k 0

theorem base_eq (k : Fin k0_t1_loop.trips) : base k = 32 * k.val := by unfold base; rw [k0_off1_eq]; rfl

theorem trips_eq : k0_t1_loop.trips = 8 := by decide +kernel

theorem base_le (k : Fin k0_t1_loop.trips) : base k + 32 ≤ 256 := by
  have h := k.isLt; have e := trips_eq; rw [base_eq]; omega

section

variable (u1 u8 : Vec Ideal S1x256x4096 .bf16) (u4 u5 : Vec Ideal S1x4096 .f32) (u22 : Vec Ideal S256x4096 .f32)
  (k : Fin k0_t1_loop.trips)

/-- The trip's rows of a block of rows, 128 columns at a time. -/
def rWin (j : Fin 32) : Rect S1x256x4096 := Rect.unit (s := S1x256x4096) ![0, base k, 128 * j.val] ![1, 32, 128]
  (by intro a; have := j.isLt; have := base_le k; fin_cases a <;> simp <;> omega)
def rVec (j : Fin 32) : Rect S1x4096 := Rect.unit (s := S1x4096) ![0, 128 * j.val] ![1, 128]
  (by intro a; have := j.isLt; fin_cases a <;> simp <;> omega)
def rBr (j : Fin 32) : Rect S256x4096 := Rect.unit (s := S256x4096) ![base k, 128 * j.val] ![32, 128]
  (by intro a; have := j.isLt; have := base_le k; fin_cases a <;> simp <;> omega)
def rAll : Rect S256x4096 := Rect.unit (s := S256x4096) ![base k, 0] ![32, 4096]
  (by intro a; have := base_le k; fin_cases a <;> simp <;> omega)

def brAll : Vec Ideal S32x4096 .f32 := View.readAt (Elt Ideal) M.arg22.view (rAll k).toLoadRect (M.harg22.unread u22)
def brC (j : Fin 32) : Vec Ideal S32x128 .f32 := View.readAt (Elt Ideal) M.arg22.view (rBr k j).toLoadRect (M.harg22.unread u22)
def dyC (j : Fin 32) : Vec Ideal S1x32x128 .bf16 := View.readAt (Elt Ideal) M.arg8.view (rWin k j).toLoadRect (M.harg8.unread u8)
def xC (j : Fin 32) : Vec Ideal S1x32x128 .bf16 := View.readAt (Elt Ideal) M.arg1.view (rWin k j).toLoadRect (M.harg1.unread u1)
def gaC (j : Fin 32) : Vec Ideal S1x128 .f32 := View.readAt (Elt Ideal) M.arg4.view (rVec j).toLoadRect (M.harg4.unread u4)
def beC (j : Fin 32) : Vec Ideal S1x128 .f32 := View.readAt (Elt Ideal) M.arg5.view (rVec j).toLoadRect (M.harg5.unread u5)

/-- The row means, the centred chunk, the gradient's chunk. -/
def mu : FVec Ideal S32x1 .f32 := k0_pay4 (brAll M u22 k)
def cen (j : Fin 32) : FVec Ideal S32x128 .f32 := k0_pay14 (mu M u22 k) (brC M u22 k j)
def gr (j : Fin 32) : FVec Ideal S32x128 .f32 := k0_pay15 (dyC M u8 k j) (gaC M u4 j)

/-- The first `n` chunks added up, lane by lane. -/
def acc (f : Fin 32 → FVec Ideal S32x128 .f32) : ℕ → FVec Ideal S32x128 .f32
  | 0 => broadcast S32x128 (Scalar.ofBits .f32 0x00000000#32)
  | n + 1 => if h : n < 32 then addf (acc f n) (f ⟨n, h⟩) else acc f n

/-- A row's lanes added up, over 4096. -/
def avg (v : FVec Ideal S32x128 .f32) : FVec Ideal S32x1 .f32 :=
  mulf (shapeCast S32x1 (multiReduction .add [1] S32 v 0x00000000#32 reduces_S32x128_S32 (.inl rfl) rfl) shapeCasts_S32_S32x1)
    (broadcast S32x1 (Scalar.ofBits .f32 0x39800000#32))

def va : FVec Ideal S32x1 .f32 :=
  addf (avg (acc (fun j => mulf (cen M u22 k j) (cen M u22 k j)) 32)) (broadcast S32x1 (Scalar.ofBits .f32 0x3727C5AC#32))
def gcm : FVec Ideal S32x1 .f32 := avg (acc (fun j => mulf (gr M u8 u4 k j) (cen M u22 k j)) 32)
def gm : FVec Ideal S32x1 .f32 := avg (acc (gr M u8 u4 k) 32)

/-- The normalised chunk. -/
def zC (j : Fin 32) : FVec Ideal S32x128 .f32 := k0_pay135 (mu M u22 k) (k0_pay122 (va M u22 k)) (brC M u22 k j)

def yP (j : Fin 32) : FVec Ideal S1x32x128 .bf16 :=
  k0_pay139 (k0_pay134 (gaC M u4 j)) (zC M u22 k j) (xC M u1 k j) (beC M u5 j)
def gP (j : Fin 32) : FVec Ideal S1x32x128 .fp8e5m2 :=
  k0_pay138 (gm M u8 u4 k) (k0_pay122 (va M u22 k)) (k0_pay123 (gcm M u8 u4 u22 k) (va M u22 k)) (k0_pay134 (gaC M u4 j))
    (zC M u22 k j) (k0_pay136 (dyC M u8 k j))

/-- The pieces of the first `n` chunks, the last first. -/
def T9 : ℕ → List (View.Piece (Elt Ideal) S1x256x4096 .bf16)
  | 0 => []
  | n + 1 => if h : n < 32 then ⟨rWin k ⟨n, h⟩, yP M u1 u4 u5 u22 k ⟨n, h⟩⟩ :: T9 n else T9 n
def T18 : ℕ → List (View.Piece (Elt Ideal) S1x256x4096 .fp8e5m2)
  | 0 => []
  | n + 1 => if h : n < 32 then ⟨rWin k ⟨n, h⟩, gP M u8 u4 u22 k ⟨n, h⟩⟩ :: T18 n else T18 n

variable (v : FVec Ideal S256x512 .f32)

theorem trip9_eq : (runT c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v u1 u4 u5 u8 u22 k).1
    = T9 M u1 u4 u5 u22 k 32 := by
  sl_kernel_rfl

theorem trip18_eq : (runT c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v u1 u4 u5 u8 u22 k).2.1
    = T18 M u8 u4 u22 k 32 := by
  sl_kernel_rfl

/-! ### Its values -/

/-- Row `a` of the trip, in the block. -/
def at_ (a : Fin 32) : Fin 256 := ⟨base k + a.val, by have := base_le k; omega⟩
/-- Column `l` of chunk `j`. -/
def col (j : Fin 32) (l : Fin 128) : Fin 4096 := ⟨j.val * 128 + l.val, by omega⟩

theorem brAll_apply (a : Fin 32) (j : Fin 4096) : brAll M u22 k (ix2 a j) = u22 (ix2 (at_ k a) j) := by
  unfold brAll
  refine (M.harg22.readAt_unread _ _ _).trans (congrArg u22 (funext fun b => ?_))
  fin_cases b
  · exact Fin.ext (show base k + 1 * a.val = base k + a.val by omega)
  · exact Fin.ext (show 0 + 1 * j.val = j.val by omega)

theorem brC_apply (j : Fin 32) (a : Fin 32) (l : Fin 128) : brC M u22 k j (ix2 a l) = u22 (ix2 (at_ k a) (col j l)) := by
  unfold brC
  refine (M.harg22.readAt_unread _ _ _).trans (congrArg u22 (funext fun b => ?_))
  fin_cases b
  · exact Fin.ext (show base k + 1 * a.val = base k + a.val by omega)
  · exact Fin.ext (show 128 * j.val + 1 * l.val = j.val * 128 + l.val by omega)

theorem dyC_apply (j : Fin 32) (a : Fin 32) (l : Fin 128) : dyC M u8 k j (ix3 0 a l) = u8 (ix3 0 (at_ k a) (col j l)) := by
  unfold dyC
  refine (M.harg8.readAt_unread _ _ _).trans (congrArg u8 (funext fun b => ?_))
  fin_cases b
  · rfl
  · exact Fin.ext (show base k + 1 * a.val = base k + a.val by omega)
  · exact Fin.ext (show 128 * j.val + 1 * l.val = j.val * 128 + l.val by omega)

theorem xC_apply (j : Fin 32) (a : Fin 32) (l : Fin 128) : xC M u1 k j (ix3 0 a l) = u1 (ix3 0 (at_ k a) (col j l)) := by
  unfold xC
  refine (M.harg1.readAt_unread _ _ _).trans (congrArg u1 (funext fun b => ?_))
  fin_cases b
  · rfl
  · exact Fin.ext (show base k + 1 * a.val = base k + a.val by omega)
  · exact Fin.ext (show 128 * j.val + 1 * l.val = j.val * 128 + l.val by omega)

theorem gaC_apply (j : Fin 32) (l : Fin 128) : gaC M u4 j (ix2 0 l) = u4 (ix2 0 (col j l)) := by
  unfold gaC
  refine (M.harg4.readAt_unread _ _ _).trans (congrArg u4 (funext fun b => ?_))
  fin_cases b
  · rfl
  · exact Fin.ext (show 128 * j.val + 1 * l.val = j.val * 128 + l.val by omega)

theorem beC_apply (j : Fin 32) (l : Fin 128) : beC M u5 j (ix2 0 l) = u5 (ix2 0 (col j l)) := by
  unfold beC
  refine (M.harg5.readAt_unread _ _ _).trans (congrArg u5 (funext fun b => ?_))
  fin_cases b
  · rfl
  · exact Fin.ext (show 128 * j.val + 1 * l.val = j.val * 128 + l.val by omega)

theorem acc_apply (f : Fin 32 → FVec Ideal S32x128 .f32) (n : ℕ) (hn : n ≤ 32) (a : Fin 32) (l : Fin 128) :
    acc f n (ix2 a l) = ∑ j : Fin n, f ⟨j.val, by omega⟩ (ix2 a l) := by
  induction n with
  | zero => simp only [acc, Finset.univ_eq_empty, Finset.sum_empty]; pointwise []
  | succ n ih =>
    have h : n < 32 := by omega
    rw [Fin.sum_univ_castSucc]
    simp only [acc, h, ↓reduceDIte]
    refine (show (addf (acc f n) (f ⟨n, h⟩) : FVec Ideal S32x128 .f32) (ix2 a l) = acc f n (ix2 a l) + f ⟨n, h⟩ (ix2 a l) by
      pointwise []).trans ?_
    rw [ih (by omega)]
    rfl

theorem avg_apply (f : Fin 32 → FVec Ideal S32x128 .f32) (g : Fin 4096 → EReal) (a : Fin 32)
    (hf : ∀ j l, f j (ix2 a l) = g (col j l)) :
    avg (acc f 32) (ix2 a 0) = (∑ x, g x) * Ideal.ofBits .f32 0x39800000#32 := by
  have e := fun l => acc_apply f 32 (le_refl _) a l
  generalize acc f 32 = w at e ⊢
  unfold avg
  pointwise []
  refine congrArg (· * Ideal.ofBits .f32 0x39800000#32) ?_
  rw [Fin.sum_univ_tiles 32 128 rfl g, Finset.sum_comm]
  refine Finset.sum_congr rfl fun l _ => (e l).trans (Finset.sum_congr rfl fun j _ => hf j l)

/-- The row the trip normalises, the gradient's row, the scale, the shift and the input's row. -/
def rowP (a : Fin 32) : Fin 4096 → EReal := fun x => u22 (ix2 (at_ k a) x)
def rowDY (a : Fin 32) : Fin 4096 → EReal := fun x => u8 (ix3 0 (at_ k a) x)
def rowX (a : Fin 32) : Fin 4096 → EReal := fun x => u1 (ix3 0 (at_ k a) x)
def vGA : Fin 4096 → EReal := fun x => u4 (ix2 0 x)

theorem mu_apply (a : Fin 32) : mu M u22 k (ix2 a 0) = Spec.mean (rowP u22 k a) := by
  rw [Spec.mean_eq]
  unfold rowP mu
  simp only [← brAll_apply M u22 k]
  pointwise [k0_pay4]

theorem cen_apply (j : Fin 32) (a : Fin 32) (l : Fin 128) :
    cen M u22 k j (ix2 a l) = rowP u22 k a (col j l) - Spec.mean (rowP u22 k a) := by
  rw [← mu_apply M u22 k]
  unfold cen
  generalize mu M u22 k = m
  unfold rowP
  rw [← brC_apply M u22 k]
  pointwise [k0_pay14]

theorem gr_apply (j : Fin 32) (a : Fin 32) (l : Fin 128) :
    gr M u8 u4 k j (ix2 a l) = Spec.grad (rowDY u8 k a) (vGA u4) (col j l) := by
  rw [Spec.grad_eq]
  unfold rowDY vGA gr
  rw [← dyC_apply M u8 k, ← gaC_apply M u4]
  pointwise [k0_pay15]

theorem va_apply (a : Fin 32) : k0_pay122 (va M u22 k) (ix2 a 0) = Spec.rstd (rowP u22 k a) := by
  rw [Spec.rstd_eq, ← avg_apply (fun j => mulf (cen M u22 k j) (cen M u22 k j)) _ a (fun j l => by
    rw [← cen_apply M u22 k]; pointwise [])]
  unfold va
  generalize avg _ = w
  pointwise [k0_pay122]

theorem gm_apply (a : Fin 32) : gm M u8 u4 k (ix2 a 0) = Spec.mean (Spec.grad (rowDY u8 k a) (vGA u4)) := by
  rw [Spec.mean_eq]
  exact avg_apply _ _ a (fun j l => gr_apply M u8 u4 k j a l)

theorem gz_apply (a : Fin 32) : k0_pay123 (gcm M u8 u4 u22 k) (va M u22 k) (ix2 a 0) = Spec.rstd (rowP u22 k a)
    * Spec.mean (fun x => Spec.grad (rowDY u8 k a) (vGA u4) x * (rowP u22 k a x - Spec.mean (rowP u22 k a))) := by
  rw [Spec.mean_eq, ← avg_apply (fun j => mulf (gr M u8 u4 k j) (cen M u22 k j)) _ a (fun j l => by
    rw [← cen_apply M u22 k, ← gr_apply M u8 u4 k]; pointwise []), ← va_apply M u22 k]
  unfold gcm
  generalize avg _ = w
  generalize va M u22 k = w2
  pointwise [k0_pay123]

theorem zC_apply (j : Fin 32) (a : Fin 32) (l : Fin 128) : zC M u22 k j (ix2 a l) = Spec.zed (rowP u22 k a) (col j l) := by
  unfold Spec.zed
  rw [← va_apply M u22 k, ← mu_apply M u22 k]
  unfold zC
  generalize mu M u22 k = m
  generalize k0_pay122 (va M u22 k) = w
  unfold rowP
  rw [← brC_apply M u22 k]
  pointwise [k0_pay135]

theorem yP_apply (j : Fin 32) (a : Fin 32) (l : Fin 128) : yP M u1 u4 u5 u22 k j (ix3 0 a l)
    = Spec.out (rowP u22 k a) (rowX u1 k a) (vGA u4) (vGA u5) (col j l) := by
  rw [Spec.out_eq, ← zC_apply M u22 k]
  unfold yP
  generalize zC M u22 k j = z
  unfold rowX vGA
  rw [← xC_apply M u1 k, ← gaC_apply M u4, ← beC_apply M u5]
  pointwise [k0_pay139, k0_pay134]

theorem gP_apply (j : Fin 32) (a : Fin 32) (l : Fin 128) : gP M u8 u4 u22 k j (ix3 0 a l)
    = Spec.gcode (rowP u22 k a) (rowDY u8 k a) (vGA u4) (col j l) := by
  unfold Spec.gcode
  rw [Spec.grad_eq, ← zC_apply M u22 k, ← gz_apply M u8 u4 u22 k, ← gm_apply M u8 u4 k, ← va_apply M u22 k]
  unfold gP
  generalize zC M u22 k j = z
  generalize k0_pay123 (gcm M u8 u4 u22 k) (va M u22 k) = gz
  generalize gm M u8 u4 k = gm
  generalize k0_pay122 (va M u22 k) = w
  unfold rowDY vGA Spec.clip5
  rw [← dyC_apply M u8 k, ← gaC_apply M u4]
  pointwise [k0_pay138, k0_pay137, k0_pay136, k0_pay134]

/-- The output, and the gradient's codes, over a block. -/
def yAt (y : S1x256x4096.Idx) : EReal := Spec.out (fun x => u22 (ix2 ⟨(y 1).val, (y 1).isLt⟩ x))
  (fun x => u1 (ix3 0 ⟨(y 1).val, (y 1).isLt⟩ x)) (vGA u4) (vGA u5) ⟨(y 2).val, (y 2).isLt⟩
def gAt (y : S1x256x4096.Idx) : EReal := Spec.gcode (fun x => u22 (ix2 ⟨(y 1).val, (y 1).isLt⟩ x))
  (fun x => u8 (ix3 0 ⟨(y 1).val, (y 1).isLt⟩ x)) (vGA u4) ⟨(y 2).val, (y 2).isLt⟩

theorem emb1 (j : Fin 32) (a : Fin 32) (l : Fin 128) :
    (⟨((rWin k j).emb (ix3 0 a l) 1).val, ((rWin k j).emb (ix3 0 a l) 1).isLt⟩ : Fin 256) = at_ k a :=
  Fin.ext (show base k + 1 * a.val = base k + a.val by omega)
theorem emb2 (j : Fin 32) (a : Fin 32) (l : Fin 128) :
    (⟨((rWin k j).emb (ix3 0 a l) 2).val, ((rWin k j).emb (ix3 0 a l) 2).isLt⟩ : Fin 4096) = col j l :=
  Fin.ext (show 128 * j.val + 1 * l.val = j.val * 128 + l.val by omega)

theorem T9_apply (n : ℕ) : ∀ p ∈ T9 M u1 u4 u5 u22 k n, ∀ x : p.1.shape.Idx, p.2 x = yAt u1 u4 u5 u22 (p.1.emb x) := by
  induction n with
  | zero => intro p hp; simp [T9] at hp
  | succ n ih =>
    intro p hp
    by_cases h : n < 32
    · simp only [T9, h, ↓reduceDIte, List.mem_cons] at hp
      obtain rfl | hp := hp
      · intro x
        obtain ⟨z, a, l, rfl⟩ : ∃ (z : Fin 1) (a : Fin 32) (l : Fin 128), x = ix3 z a l := ⟨x 0, x 1, x 2, eq_ix3 x⟩
        obtain rfl : z = 0 := Subsingleton.elim _ _
        refine (yP_apply M u1 u4 u5 u22 k ⟨n, h⟩ a l).trans ?_
        unfold yAt
        rw [emb1, emb2]
        rfl
      · exact ih p hp
    · simp only [T9, h, ↓reduceDIte] at hp
      exact ih p hp

theorem T18_apply (n : ℕ) : ∀ p ∈ T18 M u8 u4 u22 k n, ∀ x : p.1.shape.Idx, p.2 x = gAt u8 u4 u22 (p.1.emb x) := by
  induction n with
  | zero => intro p hp; simp [T18] at hp
  | succ n ih =>
    intro p hp
    by_cases h : n < 32
    · simp only [T18, h, ↓reduceDIte, List.mem_cons] at hp
      obtain rfl | hp := hp
      · intro x
        obtain ⟨z, a, l, rfl⟩ : ∃ (z : Fin 1) (a : Fin 32) (l : Fin 128), x = ix3 z a l := ⟨x 0, x 1, x 2, eq_ix3 x⟩
        obtain rfl : z = 0 := Subsingleton.elim _ _
        refine (gP_apply M u8 u4 u22 k ⟨n, h⟩ a l).trans ?_
        unfold gAt
        rw [emb1, emb2]
        rfl
      · exact ih p hp
    · simp only [T18, h, ↓reduceDIte] at hp
      exact ih p hp

end

section

variable (v : FVec Ideal S256x512 .f32) (u1 u8 : Vec Ideal S1x256x4096 .bf16) (u4 u5 : Vec Ideal S1x4096 .f32)
  (u22 : Vec Ideal S256x4096 .f32)

theorem L9_succ (n : ℕ) : L9 c i M v u1 u4 u5 u8 u22 (n + 1) = dite (n < k0_t1_loop.trips)
    (fun h => (runT c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v u1 u4 u5 u8 u22 ⟨n, h⟩).1 ++ L9 c i M v u1 u4 u5 u8 u22 n) (fun _ => []) := by
  sl_kernel_rfl

theorem L9_zero : L9 c i M v u1 u4 u5 u8 u22 0 = [] := by sl_kernel_rfl

theorem L9_apply (n : ℕ) : ∀ p ∈ L9 c i M v u1 u4 u5 u8 u22 n, ∀ x : p.1.shape.Idx, p.2 x = yAt u1 u4 u5 u22 (p.1.emb x) := by
  induction n with
  | zero => intro p hp; rw [L9_zero] at hp; simp at hp
  | succ n ih =>
    intro p hp
    rw [L9_succ] at hp
    by_cases h : n < k0_t1_loop.trips
    · simp only [h, ↓reduceDIte, List.mem_append] at hp
      obtain hp | hp := hp
      · rw [trip9_eq] at hp
        exact T9_apply M u1 u4 u5 u22 ⟨n, h⟩ 32 p hp
      · exact ih p hp
    · simp [h] at hp

theorem L18_succ (n : ℕ) : L18 c i M v u1 u4 u5 u8 u22 (n + 1) = dite (n < k0_t1_loop.trips)
    (fun h => (runT c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 v u1 u4 u5 u8 u22 ⟨n, h⟩).2.1 ++ L18 c i M v u1 u4 u5 u8 u22 n) (fun _ => []) := by
  sl_kernel_rfl

theorem L18_zero : L18 c i M v u1 u4 u5 u8 u22 0 = [] := by sl_kernel_rfl

theorem L18_apply (n : ℕ) : ∀ p ∈ L18 c i M v u1 u4 u5 u8 u22 n, ∀ x : p.1.shape.Idx, p.2 x = gAt u8 u4 u22 (p.1.emb x) := by
  induction n with
  | zero => intro p hp; rw [L18_zero] at hp; simp at hp
  | succ n ih =>
    intro p hp
    rw [L18_succ] at hp
    by_cases h : n < k0_t1_loop.trips
    · simp only [h, ↓reduceDIte, List.mem_append] at hp
      obtain hp | hp := hp
      · rw [trip18_eq] at hp
        exact T18_apply M u8 u4 u22 ⟨n, h⟩ 32 p hp
      · exact ih p hp
    · simp [h] at hp

/-- The output the kernel stores. -/
theorem y_apply (y : S1x256x4096.Idx) : View.canon (L9 c i M v u1 u4 u5 u8 u22 8) y = yAt u1 u4 u5 u22 y :=
  View.canon_apply_of_pieces (yAt u1 u4 u5 u22) _ (L9_apply c i M v u1 u8 u4 u5 u22 8) y (cover9 c i M v u1 u4 u5 u8 u22 y)

/-- The gradient's codes the kernel stores. -/
theorem g_apply (y : S1x256x4096.Idx) : View.canon (L18 c i M v u1 u4 u5 u8 u22 8) y = gAt u8 u4 u22 y :=
  View.canon_apply_of_pieces (gAt u8 u4 u22) _ (L18_apply c i M v u1 u8 u4 u5 u22 8) y (cover18 c i M v u1 u4 u5 u8 u22 y)

end

/-! ### The output projection -/

/-- The columns of chunk `j`, and its piece. -/
def rCol (j : Fin 8) : Rect S1024x4096 := Rect.unit (s := S1024x4096) ![0, 512 * j.val] ![1024, 512]
  (by intro a; have := j.isLt; fin_cases a <;> simp <;> omega)
def rOut (j : Fin 8) : Rect S256x4096 := Rect.unit (s := S256x4096) ![0, 512 * j.val] ![256, 512]
  (by intro a; have := j.isLt; fin_cases a <;> simp <;> omega)
def rCode : Rect S1x256x1024 := Rect.unit (s := S1x256x1024) ![0, 0, 0] ![1, 256, 1024] (by decide +kernel)

section

variable (u3 : Vec Ideal S1024x4096 .fp8e4m3) (u17 : Vec Ideal S1x256x1024 .fp8e4m3)

def wo (j : Fin 8) : Vec Ideal S1024x512 .fp8e4m3 := View.readAt (Elt Ideal) M.arg3.view (rCol j).toLoadRect (M.harg3.unread u3)
def oc : Vec Ideal S1x256x1024 .fp8e4m3 := View.readAt (Elt Ideal) M.arg17.view rCode.toLoadRect (M.harg17.unread u17)

def p22 (j : Fin 8) : View.Piece (Elt Ideal) S256x4096 .f32 := ⟨rOut j, k0_pay672 (oc M u17) (wo M u3 j)⟩

theorem L22_eq : L22 c i M u3 u17 = [p22 M u3 u17 7, p22 M u3 u17 6, p22 M u3 u17 5, p22 M u3 u17 4, p22 M u3 u17 3,
    p22 M u3 u17 2, p22 M u3 u17 1, p22 M u3 u17 0] := by
  sl_kernel_rfl

theorem oc_apply (r : Fin 256) (y : Fin 1024) : oc M u17 (ix3 0 r y) = u17 (ix3 0 r y) := by
  refine (M.harg17.readAt_unread _ _ _).trans (congrArg u17 (funext fun b => ?_))
  fin_cases b
  · rfl
  · exact Fin.ext (show 0 + 1 * r.val = r.val by omega)
  · exact Fin.ext (show 0 + 1 * y.val = y.val by omega)

theorem wo_apply (j : Fin 8) (y : Fin 1024) (l : Fin 512) :
    wo M u3 j (ix2 y l) = u3 (ix2 y ⟨512 * j.val + l.val, by omega⟩) := by
  refine (M.harg3.readAt_unread _ _ _).trans (congrArg u3 (funext fun b => ?_))
  fin_cases b
  · exact Fin.ext (show 0 + 1 * y.val = y.val by omega)
  · exact Fin.ext (show 512 * j.val + 1 * l.val = 512 * j.val + l.val by omega)

/-- A row of codes times a column, scaled. -/
def brAt (y : S256x4096.Idx) : EReal :=
  (∑ x, u17 (ix3 0 ⟨(y 0).val, (y 0).isLt⟩ x) * u3 (ix2 x ⟨(y 1).val, (y 1).isLt⟩)) * Ideal.ofBits .f32 0x3D000000#32

theorem p22_apply (j : Fin 8) (x : (p22 M u3 u17 j).1.shape.Idx) :
    (p22 M u3 u17 j).2 x = brAt u3 u17 ((p22 M u3 u17 j).1.emb x) := by
  obtain ⟨a, l, rfl⟩ : ∃ (a : Fin 256) (l : Fin 512), x = ix2 a l := ⟨x 0, x 1, eq_ix2 x⟩
  unfold brAt
  rw [show (⟨((p22 M u3 u17 j).1.emb (ix2 a l) 0).val, ((p22 M u3 u17 j).1.emb (ix2 a l) 0).isLt⟩ : Fin 256) = a from
      Fin.ext (show 0 + 1 * a.val = a.val by omega),
    show (⟨((p22 M u3 u17 j).1.emb (ix2 a l) 1).val, ((p22 M u3 u17 j).1.emb (ix2 a l) 1).isLt⟩ : Fin 4096)
      = ⟨512 * j.val + l.val, by omega⟩ from Fin.ext (show 512 * j.val + 1 * l.val = 512 * j.val + l.val by omega)]
  simp only [← wo_apply M u3, ← oc_apply M u17]
  show k0_pay672 (oc M u17) (wo M u3 j) (ix2 a l) = _
  pointwise [k0_pay672]

theorem branch_apply (y : S256x4096.Idx) : View.canon (L22 c i M u3 u17) y = brAt u3 u17 y := by
  refine View.canon_apply_of_pieces (brAt u3 u17) _ ?_ y (cover22 c i M u3 u17 y)
  intro p hp
  rw [L22_eq] at hp
  simp only [List.mem_cons, List.not_mem_nil, or_false] at hp
  obtain rfl | rfl | rfl | rfl | rfl | rfl | rfl | rfl := hp <;> exact p22_apply M u3 u17 _

end

end Cert.MainIdeal.Val

end
-- ==== Proof.MainIn.lean ====
/- What the blocks of the main call and its reference, hold, in terms of the argument arrays. -/
module

public import proofs.«01_k».proof.Proof.MainRun
public import proofs.«01_k».proof.Proof.KAttn
public import proofs.«01_k».proof.Proof.KLn
public import proofs.«01_k».proof.Proof.RefVal
public import Idealize.ShloMosaic.Lib.Pipeline.ValueKit
public import Idealize.ShloMosaic.Lib.Pointwise
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.MainIdeal.Val

open Cert.MainIdeal Cert.MainIdeal.Gen

variable (m : (ℓ : Loc nD τ sig) → Buf (Elt Ideal) ℓ) (c : Dev nD) (t : Fin cfg0.N)

/-- Every window's block index at a grid point. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] ∧ win0_6.index t = ![t.val, 0, 0]
    ∧ win0_7.index t = ![t.val, 0, 0] ∧ win0_8.index t = ![t.val, 0, 0] ∧ win0_10.index t = ![t.val, 0, 0]
    ∧ win0_12.index t = ![t.val, 0, 0] ∧ win0_13.index t = ![t.val, 0, 0] ∧ win0_15.index t = ![t.val, 0, 0]
    ∧ win0_16.index t = ![t.val, 0, 0] ∧ win0_17.index t = ![t.val, 0, 0] :=
  (by decide +kernel : ∀ t : Fin grid0.N, _)

/-- The batch element of a grid point. -/
def bt : Fin 6 := ⟨t.val, t.isLt⟩

theorem blk0 (r : Fin 256) (j : Fin 4096) : iblk m c 0 t (ix3 0 r j) = m ((c : Thread nD τ).loc main_arg0) (ix3 (bt t) r j) := by
  refine Eq.trans ?_ (congrFun (V_main_arg0 m c) _)
  blk_point [iblk, idx t, bt]

theorem blk7 (r : Fin 256) (j : Fin 4096) : iblk m c 7 t (ix3 0 r j) = m ((c : Thread nD τ).loc main_arg7) (ix3 (bt t) r j) := by
  refine Eq.trans ?_ (congrFun (V_main_arg7 m c) _)
  blk_point [iblk, idx t, bt]

theorem v0 : (V m c main_v0 : S4096x3072.Idx → EReal) = shapeCast S4096x3072 (m ((c : Thread nD τ).loc main_arg1)) shapeCasts_S4096x3x8x128_S4096x3072 := by
  unfold_abbrev_sides
  after_results
  rfl

theorem v1 : (V m c main_v1 : S1024x4096.Idx → EReal) = shapeCast S1024x4096 (m ((c : Thread nD τ).loc main_arg2)) shapeCasts_S8x128x4096_S1024x4096 := by
  unfold_abbrev_sides
  after_results
  rfl

theorem v4 : (V m c main_v4 : S1x4096.Idx → EReal) = shapeCast S1x4096 (m ((c : Thread nD τ).loc main_arg3)) shapeCasts_S4096_S1x4096 := by
  unfold_abbrev_sides
  after_results
  rfl

theorem v5 : (V m c main_v5 : S1x4096.Idx → EReal) = shapeCast S1x4096 (m ((c : Thread nD τ).loc main_arg4)) shapeCasts_S4096_S1x4096 := by
  unfold_abbrev_sides
  after_results
  rfl

theorem v2 (b : Fin 6) (l : Fin 64) (r : Fin 256) : V m c main_v2 (ix3 b l r) = m ((c : Thread nD τ).loc main_arg5) (ix3 b r l) := by
  unfold_abbrev_sides
  after_results
  exact Idealize.ShloMosaic.ValueIdx.transpose_ix3_021_apply _ _ _ _ _

theorem v3 (b : Fin 6) (l : Fin 64) (r : Fin 256) : V m c main_v3 (ix3 b l r) = m ((c : Thread nD τ).loc main_arg6) (ix3 b r l) := by
  unfold_abbrev_sides
  after_results
  exact Idealize.ShloMosaic.ValueIdx.transpose_ix3_021_apply _ _ _ _ _

theorem blk1 (k : Fin 4096) (j : Fin 3072) : iblk m c 1 t (ix2 k j) = shapeCast S4096x3072 (m ((c : Thread nD τ).loc main_arg1)) shapeCasts_S4096x3x8x128_S4096x3072 (ix2 k j) := by
  refine Eq.trans ?_ (congrFun (v0 m c) _)
  blk_point [iblk, idx t]

theorem blk2 (k : Fin 1024) (j : Fin 4096) : iblk m c 2 t (ix2 k j) = shapeCast S1024x4096 (m ((c : Thread nD τ).loc main_arg2)) shapeCasts_S8x128x4096_S1024x4096 (ix2 k j) := by
  refine Eq.trans ?_ (congrFun (v1 m c) _)
  blk_point [iblk, idx t]

theorem blk3 (j : Fin 4096) : iblk m c 3 t (ix2 0 j) = shapeCast S1x4096 (m ((c : Thread nD τ).loc main_arg3)) shapeCasts_S4096_S1x4096 (ix2 0 j) := by
  refine Eq.trans ?_ (congrFun (v4 m c) _)
  blk_point [iblk, idx t]

theorem blk4 (j : Fin 4096) : iblk m c 4 t (ix2 0 j) = shapeCast S1x4096 (m ((c : Thread nD τ).loc main_arg4)) shapeCasts_S4096_S1x4096 (ix2 0 j) := by
  refine Eq.trans ?_ (congrFun (v5 m c) _)
  blk_point [iblk, idx t]

theorem blk5 (l : Fin 64) (r : Fin 256) : iblk m c 5 t (ix3 0 l r) = m ((c : Thread nD τ).loc main_arg5) (ix3 (bt t) r l) := by
  refine Eq.trans ?_ (v2 m c _ _ _)
  blk_point [iblk, idx t, bt]

theorem blk6 (l : Fin 64) (r : Fin 256) : iblk m c 6 t (ix3 0 l r) = m ((c : Thread nD τ).loc main_arg6) (ix3 (bt t) r l) := by
  refine Eq.trans ?_ (v3 m c _ _ _)
  blk_point [iblk, idx t, bt]

end Cert.MainIdeal.Val

namespace Cert.MainRefIdeal.Val

open Cert.MainRefIdeal Cert.MainRefIdeal.Gen

variable (m : (ℓ : Loc nD τ sig) → Buf (Elt Ideal) ℓ) (c : Dev nD) (t : Fin cfg0.N)

/-- Every window is the whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0, 0] ∧ win0_9.index t = ![0, 0, 0] ∧ win0_10.index t = ![0, 0, 0]
    ∧ win0_11.index t = ![0, 0, 0] ∧ win0_12.index t = ![0, 0, 0] ∧ win0_13.index t = ![0, 0, 0] ∧ win0_14.index t = ![0, 0, 0] :=
  (by decide +kernel : ∀ t : Fin grid0.N, _)

theorem v0 (b : Fin 6) (r : Fin 256) (k : Fin 4096) : V m c main_v0 (ix2 (row b r) k) = m ((c : Thread nD τ).loc main_arg0) (ix3 b r k) := by
  unfold_abbrev_sides
  after_results
  refine (shapeCast_apply _ _ _ (ix3 b r k) ?_ : shapeCast S1536x4096 _ _ _ = _)
  rw [Shape.rowMajor_val_two, Shape.rowMajor_val_three]
  rfl

theorem blk0 (b : Fin 6) (r : Fin 256) (k : Fin 4096) : iblk m c 0 t (ix2 (row b r) k) = m ((c : Thread nD τ).loc main_arg0) (ix3 b r k) := by
  refine Eq.trans ?_ (v0 m c _ _ _)
  blk_point [iblk, idx t]

theorem v5 (b : Fin 6) (r : Fin 256) (k : Fin 64) : V m c main_v5 (ix2 (row b r) k) = m ((c : Thread nD τ).loc main_arg5) (ix3 b r k) := by
  unfold_abbrev_sides
  after_results
  refine (shapeCast_apply _ _ _ (ix3 b r k) ?_ : shapeCast S1536x64 _ _ _ = _)
  rw [Shape.rowMajor_val_two, Shape.rowMajor_val_three]
  rfl

theorem blk5 (b : Fin 6) (r : Fin 256) (k : Fin 64) : iblk m c 5 t (ix2 (row b r) k) = m ((c : Thread nD τ).loc main_arg5) (ix3 b r k) := by
  refine Eq.trans ?_ (v5 m c _ _ _)
  blk_point [iblk, idx t]

theorem v6 (b : Fin 6) (r : Fin 256) (k : Fin 64) : V m c main_v6 (ix2 (row b r) k) = m ((c : Thread nD τ).loc main_arg6) (ix3 b r k) := by
  unfold_abbrev_sides
  after_results
  refine (shapeCast_apply _ _ _ (ix3 b r k) ?_ : shapeCast S1536x64 _ _ _ = _)
  rw [Shape.rowMajor_val_two, Shape.rowMajor_val_three]
  rfl

theorem blk6 (b : Fin 6) (r : Fin 256) (k : Fin 64) : iblk m c 6 t (ix2 (row b r) k) = m ((c : Thread nD τ).loc main_arg6) (ix3 b r k) := by
  refine Eq.trans ?_ (v6 m c _ _ _)
  blk_point [iblk, idx t]

theorem v7 (b : Fin 6) (r : Fin 256) (k : Fin 4096) : V m c main_v7 (ix2 (row b r) k) = m ((c : Thread nD τ).loc main_arg7) (ix3 b r k) := by
  unfold_abbrev_sides
  after_results
  refine (shapeCast_apply _ _ _ (ix3 b r k) ?_ : shapeCast S1536x4096 _ _ _ = _)
  rw [Shape.rowMajor_val_two, Shape.rowMajor_val_three]
  rfl

theorem blk7 (b : Fin 6) (r : Fin 256) (k : Fin 4096) : iblk m c 7 t (ix2 (row b r) k) = m ((c : Thread nD τ).loc main_arg7) (ix3 b r k) := by
  refine Eq.trans ?_ (v7 m c _ _ _)
  blk_point [iblk, idx t]

theorem v1 : (V m c main_v1 : S4096x3072.Idx → EReal) = shapeCast S4096x3072 (m ((c : Thread nD τ).loc main_arg1)) shapeCasts_S4096x3x8x128_S4096x3072 := by
  unfold_abbrev_sides
  after_results
  rfl

theorem blk1 (k : Fin 4096) (j : Fin 3072) : iblk m c 1 t (ix2 k j) = shapeCast S4096x3072 (m ((c : Thread nD τ).loc main_arg1)) shapeCasts_S4096x3x8x128_S4096x3072 (ix2 k j) := by
  refine Eq.trans ?_ (congrFun (v1 m c) _)
  blk_point [iblk, idx t]

theorem v2 : (V m c main_v2 : S1024x4096.Idx → EReal) = shapeCast S1024x4096 (m ((c : Thread nD τ).loc main_arg2)) shapeCasts_S8x128x4096_S1024x4096 := by
  unfold_abbrev_sides
  after_results
  rfl

theorem blk2 (k : Fin 1024) (j : Fin 4096) : iblk m c 2 t (ix2 k j) = shapeCast S1024x4096 (m ((c : Thread nD τ).loc main_arg2)) shapeCasts_S8x128x4096_S1024x4096 (ix2 k j) := by
  refine Eq.trans ?_ (congrFun (v2 m c) _)
  blk_point [iblk, idx t]

theorem v3 : (V m c main_v3 : S1x4096.Idx → EReal) = shapeCast S1x4096 (m ((c : Thread nD τ).loc main_arg3)) shapeCasts_S4096_S1x4096 := by
  unfold_abbrev_sides
  after_results
  rfl

theorem blk3 (j : Fin 4096) : iblk m c 3 t (ix2 0 j) = shapeCast S1x4096 (m ((c : Thread nD τ).loc main_arg3)) shapeCasts_S4096_S1x4096 (ix2 0 j) := by
  refine Eq.trans ?_ (congrFun (v3 m c) _)
  blk_point [iblk, idx t]

theorem v4 : (V m c main_v4 : S1x4096.Idx → EReal) = shapeCast S1x4096 (m ((c : Thread nD τ).loc main_arg4)) shapeCasts_S4096_S1x4096 := by
  unfold_abbrev_sides
  after_results
  rfl

theorem blk4 (j : Fin 4096) : iblk m c 4 t (ix2 0 j) = shapeCast S1x4096 (m ((c : Thread nD τ).loc main_arg4)) shapeCasts_S4096_S1x4096 (ix2 0 j) := by
  refine Eq.trans ?_ (congrFun (v4 m c) _)
  blk_point [iblk, idx t]

end Cert.MainRefIdeal.Val

end
-- ==== Proof.MainValue.lean ====
/- The seven result arrays the main call and its reference both leave, each as one function of the argument arrays. -/
module

public import proofs.«01_k».proof.Proof.MainIn

@[expose] public section

set_option maxRecDepth 16384

noncomputable section

open Idealize.ShloMosaic Idealize.ShloMosaic.TcCoe Idealize.SL.Sem
open Idealize.ShloMosaic.Pipeline (Dat)

/-! ## The result arrays -/

namespace Cert.Whole

/-- An array of tokens: batch, position, column. -/
abbrev Tok (n : Nat) : Type := (⟨3, ![6, 256, n]⟩ : Shape).Idx → EReal
/-- A matrix. -/
abbrev Mat (a b : Nat) : Type := (⟨2, ![a, b]⟩ : Shape).Idx → EReal

variable (X : Tok 4096) (W : Mat 4096 3072) (WO : Mat 1024 4096) (GA BE : Mat 1 4096) (CO SI : Tok 64) (DY : Tok 4096)

/-- The rotated projections of batch element `b`. -/
def Q (b : Fin 6) (q : Fin 256) : Fin 24 → Fin 128 → EReal :=
  Spec.rot (Spec.proj (fun k => X (ix3 b q k)) (fun k j => W (ix2 k j))) (fun l => CO (ix3 b q l)) (fun l => SI (ix3 b q l))

/-- The attention output of batch element `b`, its eight heads side by side. -/
def O (b : Fin 6) (q : Fin 256) (x : Fin 1024) : EReal :=
  Spec.att (Q X W CO SI b) ⟨x.val / 128, by omega⟩ q ⟨x.val % 128, by omega⟩

/-- The output projection of batch element `b`. -/
def P (b : Fin 6) (q : Fin 256) : Fin 4096 → EReal :=
  Spec.branch (O X W CO SI b q) (fun x j => WO (ix2 x j))

/-- The result `y`. -/
def y : Tok 4096 := fun z =>
  Spec.out (P X W WO CO SI (z 0) (z 1)) (fun k => X (ix3 (z 0) (z 1) k)) (fun k => GA (ix2 0 k)) (fun k => BE (ix2 0 k)) (z 2)
/-- The log-sum-exp of the scores. -/
def lse : (⟨3, ![6, 8, 256]⟩ : Shape).Idx → EReal := fun z => Spec.lse (Q X W CO SI (z 0)) (z 1) (z 2)
/-- The attention output. -/
def oattn : Tok 1024 := fun z => O X W CO SI (z 0) (z 1) (z 2)
/-- The rotated projections. -/
def qkv : Tok 3072 := fun z =>
  Q X W CO SI (z 0) (z 1) ⟨(z 2).val / 128, by have h : (z 2).val < 3072 := (z 2).isLt; omega⟩ ⟨(z 2).val % 128, by omega⟩
/-- The codes of the input. -/
def xc : Tok 4096 := fun z => Spec.clip4 (X z)
/-- The codes of the attention output. -/
def oc : Tok 1024 := fun z => Spec.clip4 (O X W CO SI (z 0) (z 1) (z 2))
/-- The codes of the gradient that enters the output projection. -/
def gb : Tok 4096 := fun z =>
  Spec.gcode (P X W WO CO SI (z 0) (z 1)) (fun k => DY (ix3 (z 0) (z 1) k)) (fun k => GA (ix2 0 k)) (z 2)

end Cert.Whole

namespace Cert.Spec

theorem out_congr {P P' X X' G G' B B' : Fin 4096 → EReal} (h1 : P = P') (h2 : X = X') (h3 : G = G') (h4 : B = B') (j : Fin 4096) :
    out P X G B j = out P' X' G' B' j := by rw [h1, h2, h3, h4]

theorem gcode_congr {P P' D D' G G' : Fin 4096 → EReal} (h1 : P = P') (h2 : D = D') (h3 : G = G') (j : Fin 4096) :
    gcode P D G j = gcode P' D' G' j := by rw [h1, h2, h3]

end Cert.Spec

/-! ## The main call -/

namespace Cert.MainIdeal.Val

open Cert.MainIdeal Cert.MainIdeal.Gen

variable (m : (ℓ : Loc nD τ sig) → Buf (Elt Ideal) ℓ) (c : Dev nD)

abbrev aX : Whole.Tok 4096 := m ((c : Thread nD τ).loc main_arg0)
abbrev aW : Whole.Mat 4096 3072 := shapeCast S4096x3072 (m ((c : Thread nD τ).loc main_arg1)) shapeCasts_S4096x3x8x128_S4096x3072
abbrev aWO : Whole.Mat 1024 4096 := shapeCast S1024x4096 (m ((c : Thread nD τ).loc main_arg2)) shapeCasts_S8x128x4096_S1024x4096
abbrev aGA : Whole.Mat 1 4096 := shapeCast S1x4096 (m ((c : Thread nD τ).loc main_arg3)) shapeCasts_S4096_S1x4096
abbrev aBE : Whole.Mat 1 4096 := shapeCast S1x4096 (m ((c : Thread nD τ).loc main_arg4)) shapeCasts_S4096_S1x4096
abbrev aCO : Whole.Tok 64 := m ((c : Thread nD τ).loc main_arg5)
abbrev aSI : Whole.Tok 64 := m ((c : Thread nD τ).loc main_arg6)
abbrev aDY : Whole.Tok 4096 := m ((c : Thread nD τ).loc main_arg7)

/-- The rotated projections of a point's batch element. -/
abbrev aQ (t : Fin cfg0.N) : Fin 256 → Fin 24 → Fin 128 → EReal := Whole.Q (aX m c) (aW m c) (aCO m c) (aSI m c) (bt t)

/-- The array of rotated projections a point's body works from. -/
abbrev u14 (t : Fin cfg0.N) : S1x256x3072.Idx → EReal :=
  qkv14 c (grid0.coords t) (memsAt t) (iblk m c 0 t) (iblk m c 5 t) (iblk m c 1 t) (iblk m c 6 t)

theorem u14_apply (t : Fin cfg0.N) (x : S1x256x3072.Idx) (r : Fin 256) (n : Fin 3072) (hr : (x 1).val = r.val) (hn : (x 2).val = n.val) :
    u14 m c t x = aQ m c t r ⟨n.val / 128, by omega⟩ ⟨n.val % 128, by omega⟩ := by
  refine (qkv14_apply c _ _ _ _ _ _ x r n hr hn).trans ?_
  simp only [blk0, blk1, blk5, blk6, Whole.Q]

theorem u14_head (t : Fin cfg0.N) (r : Fin 256) (g : Fin 24) (d : Fin 128) :
    u14 m c t (ix3 0 r ⟨g.val * 128 + d.val, by omega⟩) = aQ m c t r g d := by
  refine (u14_apply m c t _ r ⟨g.val * 128 + d.val, by omega⟩ rfl rfl).trans ?_
  have e1 : (⟨(g.val * 128 + d.val) / 128, by omega⟩ : Fin 24) = g := Fin.ext (by show (g.val * 128 + d.val) / 128 = g.val; omega)
  have e2 : (⟨(g.val * 128 + d.val) % 128, by omega⟩ : Fin 128) = d := Fin.ext (by show (g.val * 128 + d.val) % 128 = d.val; omega)
  exact congrArg₂ (aQ m c t r) e1 e2

/-- The output projection of a point's batch element. -/
theorem br_apply (t : Fin cfg0.N) (r : Fin 256) (j : Fin 4096) :
    br22 c (grid0.coords t) (memsAt t) (iblk m c 0 t) (iblk m c 1 t) (iblk m c 2 t) (iblk m c 3 t) (iblk m c 4 t) (iblk m c 5 t) (iblk m c 6 t) (iblk m c 7 t) (ix2 r j)
      = Whole.P (aX m c) (aW m c) (aWO m c) (aCO m c) (aSI m c) (bt t) r j := by
  refine (branch_apply c _ _ _ _ _).trans ?_
  refine congrArg (· * _) (Finset.sum_congr rfl fun x _ => ?_)
  exact congrArg₂ (· * ·) (ocodes_apply c _ _ _ _ (u14_head m c t) _) (blk2 m c t _ _)

theorem emb8 (t : Fin cfg0.N) (y : S1x256x4096.Idx) : ((win0_8.blk t).view.emb y : (⟨3, ![6, 256, 4096]⟩ : Shape).Idx) = ix3 (bt t) (y 1) (y 2) := by
  blk_ext [idx t, bt]

theorem emb10 (t : Fin cfg0.N) (y : S1x8x256.Idx) : ((win0_10.blk t).view.emb y : (⟨3, ![6, 8, 256]⟩ : Shape).Idx) = ix3 (bt t) (y 1) (y 2) := by
  blk_ext [idx t, bt]

theorem emb12 (t : Fin cfg0.N) (y : S1x256x1024.Idx) : ((win0_12.blk t).view.emb y : (⟨3, ![6, 256, 1024]⟩ : Shape).Idx) = ix3 (bt t) (y 1) (y 2) := by
  blk_ext [idx t, bt]

theorem emb13 (t : Fin cfg0.N) (y : S1x256x3072.Idx) : ((win0_13.blk t).view.emb y : (⟨3, ![6, 256, 3072]⟩ : Shape).Idx) = ix3 (bt t) (y 1) (y 2) := by
  blk_ext [idx t, bt]

theorem emb15 (t : Fin cfg0.N) (y : S1x256x4096.Idx) : ((win0_15.blk t).view.emb y : (⟨3, ![6, 256, 4096]⟩ : Shape).Idx) = ix3 (bt t) (y 1) (y 2) := by
  blk_ext [idx t, bt]

theorem emb16 (t : Fin cfg0.N) (y : S1x256x1024.Idx) : ((win0_16.blk t).view.emb y : (⟨3, ![6, 256, 1024]⟩ : Shape).Idx) = ix3 (bt t) (y 1) (y 2) := by
  blk_ext [idx t, bt]

theorem emb17 (t : Fin cfg0.N) (y : S1x256x4096.Idx) : ((win0_17.blk t).view.emb y : (⟨3, ![6, 256, 4096]⟩ : Shape).Idx) = ix3 (bt t) (y 1) (y 2) := by
  blk_ext [idx t, bt]

/-- `y`. -/
theorem point8 (t : Fin cfg0.N) (y : S1x256x4096.Idx) : res9 c (grid0.coords t) (memsAt t) (iblk m c 0 t) (iblk m c 1 t) (iblk m c 2 t) (iblk m c 3 t) (iblk m c 4 t) (iblk m c 5 t) (iblk m c 6 t) (iblk m c 7 t) y
    = (Whole.y (aX m c) (aW m c) (aWO m c) (aGA m c) (aBE m c) (aCO m c) (aSI m c)) (ix3 (bt t) (y 1) (y 2)) := by
  refine (y_apply c _ _ _ _ _ _ _ _ y).trans ?_
  unfold yAt Whole.y
  exact Spec.out_congr (funext fun x => br_apply m c t _ x) (funext fun x => blk0 m c t _ x) (funext fun x => blk3 m c t x) (funext fun x => blk4 m c t x) _

theorem final8 : (dats m 0 c).arrAt 8 (cfgs 0).N = (Whole.y (aX m c) (aW m c) (aWO m c) (aGA m c) (aBE m c) (aCO m c) (aSI m c)) := by
  refine (dats m 0 c).arrAt_eq_of_covers 8 _ (by decide +kernel) fun t _ y => ?_
  blk_simp
  rw [after0_8]
  exact (point8 m c t y).trans (congrArg (Whole.y (aX m c) (aW m c) (aWO m c) (aGA m c) (aBE m c) (aCO m c) (aSI m c)) (emb8 t y)).symm

/-- The log-sum-exp. -/
theorem point10 (t : Fin cfg0.N) (y : S1x8x256.Idx) : res11 c (grid0.coords t) (memsAt t) (iblk m c 0 t) (iblk m c 1 t) (iblk m c 2 t) (iblk m c 3 t) (iblk m c 4 t) (iblk m c 5 t) (iblk m c 6 t) (iblk m c 7 t) y
    = (Whole.lse (aX m c) (aW m c) (aCO m c) (aSI m c)) (ix3 (bt t) (y 1) (y 2)) := by
  have e : y = ix3 0 (y 1) (y 2) := (eq_ix3 y).trans (by congr 1; exact Subsingleton.elim (α := Fin 1) _ _)
  rw [e]
  exact lse_apply c _ _ _ _ (u14_head m c t) (y 1) (y 2)

theorem final10 : (dats m 0 c).arrAt 10 (cfgs 0).N = (Whole.lse (aX m c) (aW m c) (aCO m c) (aSI m c)) := by
  refine (dats m 0 c).arrAt_eq_of_covers 10 _ (by decide +kernel) fun t _ y => ?_
  blk_simp
  rw [after0_10]
  exact (point10 m c t y).trans (congrArg (Whole.lse (aX m c) (aW m c) (aCO m c) (aSI m c)) (emb10 t y)).symm

/-- The attention output. -/
theorem point12 (t : Fin cfg0.N) (y : S1x256x1024.Idx) : res13 c (grid0.coords t) (memsAt t) (iblk m c 0 t) (iblk m c 1 t) (iblk m c 2 t) (iblk m c 3 t) (iblk m c 4 t) (iblk m c 5 t) (iblk m c 6 t) (iblk m c 7 t) y
    = (Whole.oattn (aX m c) (aW m c) (aCO m c) (aSI m c)) (ix3 (bt t) (y 1) (y 2)) := by
  exact oattn_apply c _ _ _ _ (u14_head m c t) y

theorem final12 : (dats m 0 c).arrAt 12 (cfgs 0).N = (Whole.oattn (aX m c) (aW m c) (aCO m c) (aSI m c)) := by
  refine (dats m 0 c).arrAt_eq_of_covers 12 _ (by decide +kernel) fun t _ y => ?_
  blk_simp
  rw [after0_12]
  exact (point12 m c t y).trans (congrArg (Whole.oattn (aX m c) (aW m c) (aCO m c) (aSI m c)) (emb12 t y)).symm

/-- The rotated projections. -/
theorem point13 (t : Fin cfg0.N) (y : S1x256x3072.Idx) : res14 c (grid0.coords t) (memsAt t) (iblk m c 0 t) (iblk m c 1 t) (iblk m c 2 t) (iblk m c 3 t) (iblk m c 4 t) (iblk m c 5 t) (iblk m c 6 t) (iblk m c 7 t) y
    = (Whole.qkv (aX m c) (aW m c) (aCO m c) (aSI m c)) (ix3 (bt t) (y 1) (y 2)) := by
  exact u14_apply m c t y (y 1) (y 2) rfl rfl

theorem final13 : (dats m 0 c).arrAt 13 (cfgs 0).N = (Whole.qkv (aX m c) (aW m c) (aCO m c) (aSI m c)) := by
  refine (dats m 0 c).arrAt_eq_of_covers 13 _ (by decide +kernel) fun t _ y => ?_
  blk_simp
  rw [after0_13]
  exact (point13 m c t y).trans (congrArg (Whole.qkv (aX m c) (aW m c) (aCO m c) (aSI m c)) (emb13 t y)).symm

/-- The codes of the input. -/
theorem point15 (t : Fin cfg0.N) (y : S1x256x4096.Idx) : res16 c (grid0.coords t) (memsAt t) (iblk m c 0 t) (iblk m c 1 t) (iblk m c 2 t) (iblk m c 3 t) (iblk m c 4 t) (iblk m c 5 t) (iblk m c 6 t) (iblk m c 7 t) y
    = (Whole.xc (aX m c)) (ix3 (bt t) (y 1) (y 2)) := by
  have e : y = ix3 0 (y 1) (y 2) := (eq_ix3 y).trans (by congr 1; exact Subsingleton.elim (α := Fin 1) _ _)
  refine (cod16_apply c _ _ _ _ y).trans (congrArg Spec.clip4 ?_)
  rw [e]
  exact blk0 m c t (y 1) (y 2)

theorem final15 : (dats m 0 c).arrAt 15 (cfgs 0).N = (Whole.xc (aX m c)) := by
  refine (dats m 0 c).arrAt_eq_of_covers 15 _ (by decide +kernel) fun t _ y => ?_
  blk_simp
  rw [after0_15]
  exact (point15 m c t y).trans (congrArg (Whole.xc (aX m c)) (emb15 t y)).symm

/-- The codes of the attention output. -/
theorem point16 (t : Fin cfg0.N) (y : S1x256x1024.Idx) : res17 c (grid0.coords t) (memsAt t) (iblk m c 0 t) (iblk m c 1 t) (iblk m c 2 t) (iblk m c 3 t) (iblk m c 4 t) (iblk m c 5 t) (iblk m c 6 t) (iblk m c 7 t) y
    = (Whole.oc (aX m c) (aW m c) (aCO m c) (aSI m c)) (ix3 (bt t) (y 1) (y 2)) := by
  exact ocodes_apply c _ _ _ _ (u14_head m c t) y

theorem final16 : (dats m 0 c).arrAt 16 (cfgs 0).N = (Whole.oc (aX m c) (aW m c) (aCO m c) (aSI m c)) := by
  refine (dats m 0 c).arrAt_eq_of_covers 16 _ (by decide +kernel) fun t _ y => ?_
  blk_simp
  rw [after0_16]
  exact (point16 m c t y).trans (congrArg (Whole.oc (aX m c) (aW m c) (aCO m c) (aSI m c)) (emb16 t y)).symm

/-- The codes of the gradient. -/
theorem point17 (t : Fin cfg0.N) (y : S1x256x4096.Idx) : res18 c (grid0.coords t) (memsAt t) (iblk m c 0 t) (iblk m c 1 t) (iblk m c 2 t) (iblk m c 3 t) (iblk m c 4 t) (iblk m c 5 t) (iblk m c 6 t) (iblk m c 7 t) y
    = (Whole.gb (aX m c) (aW m c) (aWO m c) (aGA m c) (aCO m c) (aSI m c) (aDY m c)) (ix3 (bt t) (y 1) (y 2)) := by
  refine (g_apply c _ _ _ _ _ _ _ _ y).trans ?_
  unfold gAt Whole.gb
  exact Spec.gcode_congr (funext fun x => br_apply m c t _ x) (funext fun x => blk7 m c t _ x) (funext fun x => blk3 m c t x) _

theorem final17 : (dats m 0 c).arrAt 17 (cfgs 0).N = (Whole.gb (aX m c) (aW m c) (aWO m c) (aGA m c) (aCO m c) (aSI m c) (aDY m c)) := by
  refine (dats m 0 c).arrAt_eq_of_covers 17 _ (by decide +kernel) fun t _ y => ?_
  blk_simp
  rw [after0_17]
  exact (point17 m c t y).trans (congrArg (Whole.gb (aX m c) (aW m c) (aWO m c) (aGA m c) (aCO m c) (aSI m c) (aDY m c)) (emb17 t y)).symm

end Cert.MainIdeal.Val

/-! ## The reference -/

namespace Cert.MainRefIdeal.Val

open Cert.MainRefIdeal Cert.MainRefIdeal.Gen

variable (m : (ℓ : Loc nD τ sig) → Buf (Elt Ideal) ℓ) (c : Dev nD)

abbrev aX : Whole.Tok 4096 := m ((c : Thread nD τ).loc main_arg0)
abbrev aW : Whole.Mat 4096 3072 := shapeCast S4096x3072 (m ((c : Thread nD τ).loc main_arg1)) shapeCasts_S4096x3x8x128_S4096x3072
abbrev aWO : Whole.Mat 1024 4096 := shapeCast S1024x4096 (m ((c : Thread nD τ).loc main_arg2)) shapeCasts_S8x128x4096_S1024x4096
abbrev aGA : Whole.Mat 1 4096 := shapeCast S1x4096 (m ((c : Thread nD τ).loc main_arg3)) shapeCasts_S4096_S1x4096
abbrev aBE : Whole.Mat 1 4096 := shapeCast S1x4096 (m ((c : Thread nD τ).loc main_arg4)) shapeCasts_S4096_S1x4096
abbrev aCO : Whole.Tok 64 := m ((c : Thread nD τ).loc main_arg5)
abbrev aSI : Whole.Tok 64 := m ((c : Thread nD τ).loc main_arg6)
abbrev aDY : Whole.Tok 4096 := m ((c : Thread nD τ).loc main_arg7)

theorem Q_eq (t : Fin cfg0.N) (b : Fin 6) : Q (iblk m c 0 t) (iblk m c 1 t) (iblk m c 5 t) (iblk m c 6 t) b = Whole.Q (aX m c) (aW m c) (aCO m c) (aSI m c) b := by
  funext q
  simp only [Q, Whole.Q, blk0, blk1, blk5, blk6]

theorem O_eq (t : Fin cfg0.N) (b : Fin 6) : O (iblk m c 0 t) (iblk m c 1 t) (iblk m c 5 t) (iblk m c 6 t) b = Whole.O (aX m c) (aW m c) (aCO m c) (aSI m c) b := by
  funext q x
  simp only [O, Whole.O, Q_eq]

theorem P_eq (t : Fin cfg0.N) (b : Fin 6) : P (iblk m c 0 t) (iblk m c 1 t) (iblk m c 2 t) (iblk m c 5 t) (iblk m c 6 t) b = Whole.P (aX m c) (aW m c) (aWO m c) (aCO m c) (aSI m c) b := by
  funext q x
  simp only [P, Whole.P, O_eq, blk2]

theorem emb8 (t : Fin cfg0.N) (y : S6x256x4096.Idx) : ((win0_8.blk t).view.emb y : S6x256x4096.Idx) = y := by
  blk_ext [idx t]

theorem emb9 (t : Fin cfg0.N) (y : S6x8x256.Idx) : ((win0_9.blk t).view.emb y : S6x8x256.Idx) = y := by
  blk_ext [idx t]

theorem emb10 (t : Fin cfg0.N) (y : S6x256x1024.Idx) : ((win0_10.blk t).view.emb y : S6x256x1024.Idx) = y := by
  blk_ext [idx t]

theorem emb11 (t : Fin cfg0.N) (y : S6x256x3072.Idx) : ((win0_11.blk t).view.emb y : S6x256x3072.Idx) = y := by
  blk_ext [idx t]

theorem emb12 (t : Fin cfg0.N) (y : S6x256x4096.Idx) : ((win0_12.blk t).view.emb y : S6x256x4096.Idx) = y := by
  blk_ext [idx t]

theorem emb13 (t : Fin cfg0.N) (y : S6x256x1024.Idx) : ((win0_13.blk t).view.emb y : S6x256x1024.Idx) = y := by
  blk_ext [idx t]

theorem emb14 (t : Fin cfg0.N) (y : S6x256x4096.Idx) : ((win0_14.blk t).view.emb y : S6x256x4096.Idx) = y := by
  blk_ext [idx t]

theorem entry8 (t : Fin cfg0.N) (b : Fin 6) (r : Fin 256) (j : Fin 4096) : out0_8 (F := Ideal) (iblk m c 0 t) (iblk m c 1 t) (iblk m c 2 t) (iblk m c 3 t) (iblk m c 4 t) (iblk m c 5 t) (iblk m c 6 t) (iblk m c 7 t) (ix3 b r j) = (Whole.y (aX m c) (aW m c) (aWO m c) (aGA m c) (aBE m c) (aCO m c) (aSI m c)) (ix3 b r j) := by
  rw [out8]
  rw [P_eq]
  unfold Whole.y
  exact Spec.out_congr rfl (funext fun k => blk0 m c t _ _ k) (funext fun k => blk3 m c t k) (funext fun k => blk4 m c t k) _

/-- `y`. -/
theorem point8 (t : Fin cfg0.N) (y : S6x256x4096.Idx) : out0_8 (F := Ideal) (iblk m c 0 t) (iblk m c 1 t) (iblk m c 2 t) (iblk m c 3 t) (iblk m c 4 t) (iblk m c 5 t) (iblk m c 6 t) (iblk m c 7 t) y = (Whole.y (aX m c) (aW m c) (aWO m c) (aGA m c) (aBE m c) (aCO m c) (aSI m c)) y :=
  (congrArg (out0_8 (F := Ideal) (iblk m c 0 t) (iblk m c 1 t) (iblk m c 2 t) (iblk m c 3 t) (iblk m c 4 t) (iblk m c 5 t) (iblk m c 6 t) (iblk m c 7 t)) (eq_ix3 y)).trans ((entry8 m c t (y 0) (y 1) (y 2)).trans (congrArg (Whole.y (aX m c) (aW m c) (aWO m c) (aGA m c) (aBE m c) (aCO m c) (aSI m c)) (eq_ix3 y).symm))

theorem final8 : (dats m 0 c).arrAt 8 (cfgs 0).N = (Whole.y (aX m c) (aW m c) (aWO m c) (aGA m c) (aBE m c) (aCO m c) (aSI m c)) := by
  refine (dats m 0 c).arrAt_eq_of_covers 8 _ (by decide +kernel) fun t _ y => ?_
  blk_simp
  rw [after0_8]
  exact (point8 m c t y).trans (congrArg (Whole.y (aX m c) (aW m c) (aWO m c) (aGA m c) (aBE m c) (aCO m c) (aSI m c)) (emb8 t y)).symm

theorem entry9 (t : Fin cfg0.N) (b : Fin 6) (r : Fin 8) (j : Fin 256) : out0_9 (F := Ideal) (iblk m c 0 t) (iblk m c 1 t) (iblk m c 2 t) (iblk m c 3 t) (iblk m c 4 t) (iblk m c 5 t) (iblk m c 6 t) (iblk m c 7 t) (ix3 b r j) = (Whole.lse (aX m c) (aW m c) (aCO m c) (aSI m c)) (ix3 b r j) := by
  rw [out9]
  rw [Q_eq]
  rfl

/-- The log-sum-exp. -/
theorem point9 (t : Fin cfg0.N) (y : S6x8x256.Idx) : out0_9 (F := Ideal) (iblk m c 0 t) (iblk m c 1 t) (iblk m c 2 t) (iblk m c 3 t) (iblk m c 4 t) (iblk m c 5 t) (iblk m c 6 t) (iblk m c 7 t) y = (Whole.lse (aX m c) (aW m c) (aCO m c) (aSI m c)) y :=
  (congrArg (out0_9 (F := Ideal) (iblk m c 0 t) (iblk m c 1 t) (iblk m c 2 t) (iblk m c 3 t) (iblk m c 4 t) (iblk m c 5 t) (iblk m c 6 t) (iblk m c 7 t)) (eq_ix3 y)).trans ((entry9 m c t (y 0) (y 1) (y 2)).trans (congrArg (Whole.lse (aX m c) (aW m c) (aCO m c) (aSI m c)) (eq_ix3 y).symm))

theorem final9 : (dats m 0 c).arrAt 9 (cfgs 0).N = (Whole.lse (aX m c) (aW m c) (aCO m c) (aSI m c)) := by
  refine (dats m 0 c).arrAt_eq_of_covers 9 _ (by decide +kernel) fun t _ y => ?_
  blk_simp
  rw [after0_9]
  exact (point9 m c t y).trans (congrArg (Whole.lse (aX m c) (aW m c) (aCO m c) (aSI m c)) (emb9 t y)).symm

theorem entry10 (t : Fin cfg0.N) (b : Fin 6) (r : Fin 256) (j : Fin 1024) : out0_10 (F := Ideal) (iblk m c 0 t) (iblk m c 1 t) (iblk m c 2 t) (iblk m c 3 t) (iblk m c 4 t) (iblk m c 5 t) (iblk m c 6 t) (iblk m c 7 t) (ix3 b r j) = (Whole.oattn (aX m c) (aW m c) (aCO m c) (aSI m c)) (ix3 b r j) := by
  rw [out10]
  rw [O_eq]
  rfl

/-- The attention output. -/
theorem point10 (t : Fin cfg0.N) (y : S6x256x1024.Idx) : out0_10 (F := Ideal) (iblk m c 0 t) (iblk m c 1 t) (iblk m c 2 t) (iblk m c 3 t) (iblk m c 4 t) (iblk m c 5 t) (iblk m c 6 t) (iblk m c 7 t) y = (Whole.oattn (aX m c) (aW m c) (aCO m c) (aSI m c)) y :=
  (congrArg (out0_10 (F := Ideal) (iblk m c 0 t) (iblk m c 1 t) (iblk m c 2 t) (iblk m c 3 t) (iblk m c 4 t) (iblk m c 5 t) (iblk m c 6 t) (iblk m c 7 t)) (eq_ix3 y)).trans ((entry10 m c t (y 0) (y 1) (y 2)).trans (congrArg (Whole.oattn (aX m c) (aW m c) (aCO m c) (aSI m c)) (eq_ix3 y).symm))

theorem final10 : (dats m 0 c).arrAt 10 (cfgs 0).N = (Whole.oattn (aX m c) (aW m c) (aCO m c) (aSI m c)) := by
  refine (dats m 0 c).arrAt_eq_of_covers 10 _ (by decide +kernel) fun t _ y => ?_
  blk_simp
  rw [after0_10]
  exact (point10 m c t y).trans (congrArg (Whole.oattn (aX m c) (aW m c) (aCO m c) (aSI m c)) (emb10 t y)).symm

theorem entry11 (t : Fin cfg0.N) (b : Fin 6) (r : Fin 256) (j : Fin 3072) : out0_11 (F := Ideal) (iblk m c 0 t) (iblk m c 1 t) (iblk m c 2 t) (iblk m c 3 t) (iblk m c 4 t) (iblk m c 5 t) (iblk m c 6 t) (iblk m c 7 t) (ix3 b r j) = (Whole.qkv (aX m c) (aW m c) (aCO m c) (aSI m c)) (ix3 b r j) := by
  have e : j = ⟨(⟨j.val / 128, by omega⟩ : Fin 24).val * 128 + (⟨j.val % 128, by omega⟩ : Fin 128).val, by show j.val / 128 * 128 + j.val % 128 < 3072; omega⟩ :=
    Fin.ext (by show j.val = j.val / 128 * 128 + j.val % 128; omega)
  refine (congrArg (fun j => out0_11 (F := Ideal) (iblk m c 0 t) (iblk m c 1 t) (iblk m c 2 t) (iblk m c 3 t) (iblk m c 4 t) (iblk m c 5 t) (iblk m c 6 t) (iblk m c 7 t) (ix3 b r j)) e).trans ?_
  refine (out11 _ _ _ _ _ _ _ _ b r ⟨j.val / 128, by omega⟩ ⟨j.val % 128, by omega⟩).trans ?_
  rw [Q_eq]
  rfl

/-- The rotated projections. -/
theorem point11 (t : Fin cfg0.N) (y : S6x256x3072.Idx) : out0_11 (F := Ideal) (iblk m c 0 t) (iblk m c 1 t) (iblk m c 2 t) (iblk m c 3 t) (iblk m c 4 t) (iblk m c 5 t) (iblk m c 6 t) (iblk m c 7 t) y = (Whole.qkv (aX m c) (aW m c) (aCO m c) (aSI m c)) y :=
  (congrArg (out0_11 (F := Ideal) (iblk m c 0 t) (iblk m c 1 t) (iblk m c 2 t) (iblk m c 3 t) (iblk m c 4 t) (iblk m c 5 t) (iblk m c 6 t) (iblk m c 7 t)) (eq_ix3 y)).trans ((entry11 m c t (y 0) (y 1) (y 2)).trans (congrArg (Whole.qkv (aX m c) (aW m c) (aCO m c) (aSI m c)) (eq_ix3 y).symm))

theorem final11 : (dats m 0 c).arrAt 11 (cfgs 0).N = (Whole.qkv (aX m c) (aW m c) (aCO m c) (aSI m c)) := by
  refine (dats m 0 c).arrAt_eq_of_covers 11 _ (by decide +kernel) fun t _ y => ?_
  blk_simp
  rw [after0_11]
  exact (point11 m c t y).trans (congrArg (Whole.qkv (aX m c) (aW m c) (aCO m c) (aSI m c)) (emb11 t y)).symm

theorem entry12 (t : Fin cfg0.N) (b : Fin 6) (r : Fin 256) (j : Fin 4096) : out0_12 (F := Ideal) (iblk m c 0 t) (iblk m c 1 t) (iblk m c 2 t) (iblk m c 3 t) (iblk m c 4 t) (iblk m c 5 t) (iblk m c 6 t) (iblk m c 7 t) (ix3 b r j) = (Whole.xc (aX m c)) (ix3 b r j) := by
  rw [out12]
  exact congrArg Spec.clip4 (blk0 m c t _ _ _)

/-- The codes of the input. -/
theorem point12 (t : Fin cfg0.N) (y : S6x256x4096.Idx) : out0_12 (F := Ideal) (iblk m c 0 t) (iblk m c 1 t) (iblk m c 2 t) (iblk m c 3 t) (iblk m c 4 t) (iblk m c 5 t) (iblk m c 6 t) (iblk m c 7 t) y = (Whole.xc (aX m c)) y :=
  (congrArg (out0_12 (F := Ideal) (iblk m c 0 t) (iblk m c 1 t) (iblk m c 2 t) (iblk m c 3 t) (iblk m c 4 t) (iblk m c 5 t) (iblk m c 6 t) (iblk m c 7 t)) (eq_ix3 y)).trans ((entry12 m c t (y 0) (y 1) (y 2)).trans (congrArg (Whole.xc (aX m c)) (eq_ix3 y).symm))

theorem final12 : (dats m 0 c).arrAt 12 (cfgs 0).N = (Whole.xc (aX m c)) := by
  refine (dats m 0 c).arrAt_eq_of_covers 12 _ (by decide +kernel) fun t _ y => ?_
  blk_simp
  rw [after0_12]
  exact (point12 m c t y).trans (congrArg (Whole.xc (aX m c)) (emb12 t y)).symm

theorem entry13 (t : Fin cfg0.N) (b : Fin 6) (r : Fin 256) (j : Fin 1024) : out0_13 (F := Ideal) (iblk m c 0 t) (iblk m c 1 t) (iblk m c 2 t) (iblk m c 3 t) (iblk m c 4 t) (iblk m c 5 t) (iblk m c 6 t) (iblk m c 7 t) (ix3 b r j) = (Whole.oc (aX m c) (aW m c) (aCO m c) (aSI m c)) (ix3 b r j) := by
  rw [out13]
  rw [O_eq]
  rfl

/-- The codes of the attention output. -/
theorem point13 (t : Fin cfg0.N) (y : S6x256x1024.Idx) : out0_13 (F := Ideal) (iblk m c 0 t) (iblk m c 1 t) (iblk m c 2 t) (iblk m c 3 t) (iblk m c 4 t) (iblk m c 5 t) (iblk m c 6 t) (iblk m c 7 t) y = (Whole.oc (aX m c) (aW m c) (aCO m c) (aSI m c)) y :=
  (congrArg (out0_13 (F := Ideal) (iblk m c 0 t) (iblk m c 1 t) (iblk m c 2 t) (iblk m c 3 t) (iblk m c 4 t) (iblk m c 5 t) (iblk m c 6 t) (iblk m c 7 t)) (eq_ix3 y)).trans ((entry13 m c t (y 0) (y 1) (y 2)).trans (congrArg (Whole.oc (aX m c) (aW m c) (aCO m c) (aSI m c)) (eq_ix3 y).symm))

theorem final13 : (dats m 0 c).arrAt 13 (cfgs 0).N = (Whole.oc (aX m c) (aW m c) (aCO m c) (aSI m c)) := by
  refine (dats m 0 c).arrAt_eq_of_covers 13 _ (by decide +kernel) fun t _ y => ?_
  blk_simp
  rw [after0_13]
  exact (point13 m c t y).trans (congrArg (Whole.oc (aX m c) (aW m c) (aCO m c) (aSI m c)) (emb13 t y)).symm

theorem entry14 (t : Fin cfg0.N) (b : Fin 6) (r : Fin 256) (j : Fin 4096) : out0_14 (F := Ideal) (iblk m c 0 t) (iblk m c 1 t) (iblk m c 2 t) (iblk m c 3 t) (iblk m c 4 t) (iblk m c 5 t) (iblk m c 6 t) (iblk m c 7 t) (ix3 b r j) = (Whole.gb (aX m c) (aW m c) (aWO m c) (aGA m c) (aCO m c) (aSI m c) (aDY m c)) (ix3 b r j) := by
  rw [out14]
  rw [P_eq]
  unfold Whole.gb
  exact Spec.gcode_congr rfl (funext fun k => blk7 m c t _ _ k) (funext fun k => blk3 m c t k) _

/-- The codes of the gradient. -/
theorem point14 (t : Fin cfg0.N) (y : S6x256x4096.Idx) : out0_14 (F := Ideal) (iblk m c 0 t) (iblk m c 1 t) (iblk m c 2 t) (iblk m c 3 t) (iblk m c 4 t) (iblk m c 5 t) (iblk m c 6 t) (iblk m c 7 t) y = (Whole.gb (aX m c) (aW m c) (aWO m c) (aGA m c) (aCO m c) (aSI m c) (aDY m c)) y :=
  (congrArg (out0_14 (F := Ideal) (iblk m c 0 t) (iblk m c 1 t) (iblk m c 2 t) (iblk m c 3 t) (iblk m c 4 t) (iblk m c 5 t) (iblk m c 6 t) (iblk m c 7 t)) (eq_ix3 y)).trans ((entry14 m c t (y 0) (y 1) (y 2)).trans (congrArg (Whole.gb (aX m c) (aW m c) (aWO m c) (aGA m c) (aCO m c) (aSI m c) (aDY m c)) (eq_ix3 y).symm))

theorem final14 : (dats m 0 c).arrAt 14 (cfgs 0).N = (Whole.gb (aX m c) (aW m c) (aWO m c) (aGA m c) (aCO m c) (aSI m c) (aDY m c)) := by
  refine (dats m 0 c).arrAt_eq_of_covers 14 _ (by decide +kernel) fun t _ y => ?_
  blk_simp
  rw [after0_14]
  exact (point14 m c t y).trans (congrArg (Whole.gb (aX m c) (aW m c) (aWO m c) (aGA m c) (aCO m c) (aSI m c) (aDY m c)) (emb14 t y)).symm

end Cert.MainRefIdeal.Val

end
-- ==== Proof.MainPair.lean ====
/- The two runs of the main call's claim, each leaving the same seven arrays, and the claim itself. -/
module

public import proofs.«01_k».proof.Defs
public import proofs.«01_k».proof.Proof.MainValue

@[expose] public section

noncomputable section

open Idealize.ShloMosaic Idealize.ShloMosaic.TcCoe Idealize.SL.Sem
open Idealize.ShloMosaic.Pipeline (Dat)

namespace Cert.MainIdeal.Val

open Cert.MainIdeal Cert.MainIdeal.Gen

variable (m : (ℓ : Loc nD τ sig) → Buf (Elt Ideal) ℓ) (ρ : Dev nD → PrngReg)

/-- A result window's array after the run is the one its blocks make up. -/
theorem named {r : PUnit × MemSt nD τ sig (Elt Ideal)} (h : Pipeline.RDat.FramePost (cfgs 0) (fun c => (dats m 0 c).toRForget forgets0) (V m) r)
    (c : Dev nD) (w : Fin cfg0.W) (hw : forgets0 w = false) :
    r.2.mem ((c : Thread nD τ).loc (Pipeline.arrRef spec0 w)) = (dats m 0 c).arrAt w (cfgs 0).N :=
  (Pipeline.Dat.toRForget_arrAt_iff (dats m 0 c) hw _ _).mp ((h c).1 w)

/-- The seven arrays the main call leaves. -/
theorem run_results : θ_run defs (onTc (τ := τ) (main (F := Ideal))) ⟨m, fun _ => 0, ρ⟩ fun r => ∀ c : Dev nD,
      r.2.mem ((c : Thread nD τ).loc main_v6_0) = Whole.y (aX m c) (aW m c) (aWO m c) (aGA m c) (aBE m c) (aCO m c) (aSI m c)
      ∧ r.2.mem ((c : Thread nD τ).loc main_v6_2) = Whole.lse (aX m c) (aW m c) (aCO m c) (aSI m c)
      ∧ r.2.mem ((c : Thread nD τ).loc main_v6_4) = Whole.oattn (aX m c) (aW m c) (aCO m c) (aSI m c)
      ∧ r.2.mem ((c : Thread nD τ).loc main_v6_5) = Whole.qkv (aX m c) (aW m c) (aCO m c) (aSI m c)
      ∧ r.2.mem ((c : Thread nD τ).loc main_v6_7) = Whole.xc (aX m c)
      ∧ r.2.mem ((c : Thread nD τ).loc main_v6_8) = Whole.oc (aX m c) (aW m c) (aCO m c) (aSI m c)
      ∧ r.2.mem ((c : Thread nD τ).loc main_v6_9) = Whole.gb (aX m c) (aW m c) (aWO m c) (aGA m c) (aCO m c) (aSI m c) (aDY m c) :=
  (θ_run defs _ _).mono (fun r h c => ⟨(named m h c 8 rfl).trans (final8 m c),
      (named m h c 10 rfl).trans (final10 m c),
      (named m h c 12 rfl).trans (final12 m c),
      (named m h c 13 rfl).trans (final13 m c),
      (named m h c 15 rfl).trans (final15 m c),
      (named m h c 16 rfl).trans (final16 m c),
      (named m h c 17 rfl).trans (final17 m c)⟩) (run_main m ρ)

/-- The same with the arguments unchanged. -/
theorem run : θ_run defs (onTc (τ := τ) (main (F := Ideal))) ⟨m, fun _ => 0, ρ⟩ fun r => ∀ c : Dev nD,
      r.2.mem ((c : Thread nD τ).loc main_v6_0) = Whole.y (aX m c) (aW m c) (aWO m c) (aGA m c) (aBE m c) (aCO m c) (aSI m c)
      ∧ r.2.mem ((c : Thread nD τ).loc main_v6_2) = Whole.lse (aX m c) (aW m c) (aCO m c) (aSI m c)
      ∧ r.2.mem ((c : Thread nD τ).loc main_v6_4) = Whole.oattn (aX m c) (aW m c) (aCO m c) (aSI m c)
      ∧ r.2.mem ((c : Thread nD τ).loc main_v6_5) = Whole.qkv (aX m c) (aW m c) (aCO m c) (aSI m c)
      ∧ r.2.mem ((c : Thread nD τ).loc main_v6_7) = Whole.xc (aX m c)
      ∧ r.2.mem ((c : Thread nD τ).loc main_v6_8) = Whole.oc (aX m c) (aW m c) (aCO m c) (aSI m c)
      ∧ r.2.mem ((c : Thread nD τ).loc main_v6_9) = Whole.gb (aX m c) (aW m c) (aWO m c) (aGA m c) (aCO m c) (aSI m c) (aDY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h.1 c).1, (h.1 c).2.1, (h.1 c).2.2.1, (h.1 c).2.2.2.1, (h.1 c).2.2.2.2.1, (h.1 c).2.2.2.2.2.1, (h.1 c).2.2.2.2.2.2, h.2 c⟩) (θ_run_and (run_results m ρ) (unchanged m ρ))

end Cert.MainIdeal.Val

namespace Cert.MainRefIdeal.Val

open Cert.MainRefIdeal Cert.MainRefIdeal.Gen

variable (m : (ℓ : Loc nD τ sig) → Buf (Elt Ideal) ℓ) (ρ : Dev nD → PrngReg)

/-- The seven arrays the reference leaves. -/
theorem run_results : θ_run defs (onTc (τ := τ) (main (F := Ideal))) ⟨m, fun _ => 0, ρ⟩ fun r => ∀ c : Dev nD,
      r.2.mem ((c : Thread nD τ).loc main_v8_0) = Whole.y (aX m c) (aW m c) (aWO m c) (aGA m c) (aBE m c) (aCO m c) (aSI m c)
      ∧ r.2.mem ((c : Thread nD τ).loc main_v8_1) = Whole.lse (aX m c) (aW m c) (aCO m c) (aSI m c)
      ∧ r.2.mem ((c : Thread nD τ).loc main_v8_2) = Whole.oattn (aX m c) (aW m c) (aCO m c) (aSI m c)
      ∧ r.2.mem ((c : Thread nD τ).loc main_v8_3) = Whole.qkv (aX m c) (aW m c) (aCO m c) (aSI m c)
      ∧ r.2.mem ((c : Thread nD τ).loc main_v8_4) = Whole.xc (aX m c)
      ∧ r.2.mem ((c : Thread nD τ).loc main_v8_5) = Whole.oc (aX m c) (aW m c) (aCO m c) (aSI m c)
      ∧ r.2.mem ((c : Thread nD τ).loc main_v8_6) = Whole.gb (aX m c) (aW m c) (aWO m c) (aGA m c) (aCO m c) (aSI m c) (aDY m c) :=
  (θ_run defs _ _).mono (fun r h c => ⟨((h c).1 8).trans (final8 m c),
      ((h c).1 9).trans (final9 m c),
      ((h c).1 10).trans (final10 m c),
      ((h c).1 11).trans (final11 m c),
      ((h c).1 12).trans (final12 m c),
      ((h c).1 13).trans (final13 m c),
      ((h c).1 14).trans (final14 m c)⟩) (run_main m ρ)

/-- The same with the arguments unchanged. -/
theorem run : θ_run defs (onTc (τ := τ) (main (F := Ideal))) ⟨m, fun _ => 0, ρ⟩ fun r => ∀ c : Dev nD,
      r.2.mem ((c : Thread nD τ).loc main_v8_0) = Whole.y (aX m c) (aW m c) (aWO m c) (aGA m c) (aBE m c) (aCO m c) (aSI m c)
      ∧ r.2.mem ((c : Thread nD τ).loc main_v8_1) = Whole.lse (aX m c) (aW m c) (aCO m c) (aSI m c)
      ∧ r.2.mem ((c : Thread nD τ).loc main_v8_2) = Whole.oattn (aX m c) (aW m c) (aCO m c) (aSI m c)
      ∧ r.2.mem ((c : Thread nD τ).loc main_v8_3) = Whole.qkv (aX m c) (aW m c) (aCO m c) (aSI m c)
      ∧ r.2.mem ((c : Thread nD τ).loc main_v8_4) = Whole.xc (aX m c)
      ∧ r.2.mem ((c : Thread nD τ).loc main_v8_5) = Whole.oc (aX m c) (aW m c) (aCO m c) (aSI m c)
      ∧ r.2.mem ((c : Thread nD τ).loc main_v8_6) = Whole.gb (aX m c) (aW m c) (aWO m c) (aGA m c) (aCO m c) (aSI m c) (aDY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h.1 c).1, (h.1 c).2.1, (h.1 c).2.2.1, (h.1 c).2.2.2.1, (h.1 c).2.2.2.2.1, (h.1 c).2.2.2.2.2.1, (h.1 c).2.2.2.2.2.2, h.2 c⟩) (θ_run_and (run_results m ρ) (unchanged m ρ))

end Cert.MainRefIdeal.Val

namespace Cert.Whole

/-- The seven results of the main call and of its reference, from the same arguments, are equal. -/
theorem algebraic : Cert.algebraic_MainIdeal_MainRefIdeal := by
  intro m g m' g' _ hargs
  have e0 := fun c : Dev Cert.MainIdeal.nD => (hargs c).1
  have e1 := fun c : Dev Cert.MainIdeal.nD => (hargs c).2.1
  have e2 := fun c : Dev Cert.MainIdeal.nD => (hargs c).2.2.1
  have e3 := fun c : Dev Cert.MainIdeal.nD => (hargs c).2.2.2.1
  have e4 := fun c : Dev Cert.MainIdeal.nD => (hargs c).2.2.2.2.1
  have e5 := fun c : Dev Cert.MainIdeal.nD => (hargs c).2.2.2.2.2.1
  have e6 := fun c : Dev Cert.MainIdeal.nD => (hargs c).2.2.2.2.2.2.1
  have e7 := fun c : Dev Cert.MainIdeal.nD => (hargs c).2.2.2.2.2.2.2
  have f0 : ∀ c, Cert.MainRefIdeal.Val.aX m' c = Cert.MainIdeal.Val.aX m c := fun c => e0 c
  have f1 : ∀ c, Cert.MainRefIdeal.Val.aW m' c = Cert.MainIdeal.Val.aW m c := fun c => congrArg (fun z => shapeCast Cert.MainIdeal.S4096x3072 z Cert.MainIdeal.Facts₀.shapeCasts_S4096x3x8x128_S4096x3072) (e1 c)
  have f2 : ∀ c, Cert.MainRefIdeal.Val.aWO m' c = Cert.MainIdeal.Val.aWO m c := fun c => by unfold Cert.MainRefIdeal.Val.aWO; rw [e2 c]
  have f3 : ∀ c, Cert.MainRefIdeal.Val.aGA m' c = Cert.MainIdeal.Val.aGA m c := fun c => by unfold Cert.MainRefIdeal.Val.aGA; rw [e3 c]
  have f4 : ∀ c, Cert.MainRefIdeal.Val.aBE m' c = Cert.MainIdeal.Val.aBE m c := fun c => by unfold Cert.MainRefIdeal.Val.aBE; rw [e4 c]
  have f5 : ∀ c, Cert.MainRefIdeal.Val.aCO m' c = Cert.MainIdeal.Val.aCO m c := fun c => e5 c
  have f6 : ∀ c, Cert.MainRefIdeal.Val.aSI m' c = Cert.MainIdeal.Val.aSI m c := fun c => e6 c
  have f7 : ∀ c, Cert.MainRefIdeal.Val.aDY m' c = Cert.MainIdeal.Val.aDY m c := fun c => e7 c
  refine ⟨fun c => Whole.y (Cert.MainIdeal.Val.aX m c) (Cert.MainIdeal.Val.aW m c) (Cert.MainIdeal.Val.aWO m c) (Cert.MainIdeal.Val.aGA m c) (Cert.MainIdeal.Val.aBE m c) (Cert.MainIdeal.Val.aCO m c) (Cert.MainIdeal.Val.aSI m c), fun c => Whole.lse (Cert.MainIdeal.Val.aX m c) (Cert.MainIdeal.Val.aW m c) (Cert.MainIdeal.Val.aCO m c) (Cert.MainIdeal.Val.aSI m c), fun c => Whole.oattn (Cert.MainIdeal.Val.aX m c) (Cert.MainIdeal.Val.aW m c) (Cert.MainIdeal.Val.aCO m c) (Cert.MainIdeal.Val.aSI m c), fun c => Whole.qkv (Cert.MainIdeal.Val.aX m c) (Cert.MainIdeal.Val.aW m c) (Cert.MainIdeal.Val.aCO m c) (Cert.MainIdeal.Val.aSI m c), fun c => Whole.xc (Cert.MainIdeal.Val.aX m c), fun c => Whole.oc (Cert.MainIdeal.Val.aX m c) (Cert.MainIdeal.Val.aW m c) (Cert.MainIdeal.Val.aCO m c) (Cert.MainIdeal.Val.aSI m c), fun c => Whole.gb (Cert.MainIdeal.Val.aX m c) (Cert.MainIdeal.Val.aW m c) (Cert.MainIdeal.Val.aWO m c) (Cert.MainIdeal.Val.aGA m c) (Cert.MainIdeal.Val.aCO m c) (Cert.MainIdeal.Val.aSI m c) (Cert.MainIdeal.Val.aDY m c), Cert.MainIdeal.Val.run m g,
    (θ_run _ _ _).mono (fun r h c => ?_) (Cert.MainRefIdeal.Val.run m' g')⟩
  have hc := h c
  rw [f0, f1, f2, f3, f4, f5, f6, f7] at hc
  exact hc

end Cert.Whole

end
-- ==== Proof.lean ====
/- The claims about the layer's two calls, put together.

   `Main` is the call that quantises the input, projects it, attends and projects back, and starts on the gradient; `Dw`
   is the call of the two weight gradients. For each: the program runs to its end leaving its arguments as they were
   (and every semaphore at zero), its reading over the reals is the program itself, and the arrays it leaves equal the
   reference's. What the main call's arrays hold is `Proof/MainValue.lean`; the two runs are
   set side by side in `Proof/MainPair.lean`; what `Dw`'s hold is `Proof/DwValue.lean`. -/
module

public import proofs.«01_k».proof.Defs
public import proofs.«01_k».proof.Proof.Gen.Main
public import proofs.«01_k».proof.Proof.Gen.Main.Skeleton
public import proofs.«01_k».proof.Proof.Gen.Main.Loops
public import proofs.«01_k».proof.Proof.Gen.Main.Launch
public import proofs.«01_k».proof.Proof.Gen.Main.Points
public import proofs.«01_k».proof.Proof.Gen.MainIdeal
public import proofs.«01_k».proof.Proof.Gen.MainIdeal.Skeleton
public import proofs.«01_k».proof.Proof.Gen.MainIdeal.Loops
public import proofs.«01_k».proof.Proof.Gen.MainIdeal.Launch
public import proofs.«01_k».proof.Proof.Gen.MainIdeal.Points
public import proofs.«01_k».proof.Proof.Gen.MainRefIdeal
public import proofs.«01_k».proof.Proof.Gen.MainRefIdeal.Skeleton
public import proofs.«01_k».proof.Proof.Gen.MainRefIdeal.Launch
public import proofs.«01_k».proof.Proof.Gen.MainRefIdeal.Points
public import proofs.«01_k».proof.Proof.Gen.MainRefIdeal.Frame
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.DwRefIdeal.Skeleton
public import proofs.«01_k».proof.Proof.Gen.DwRefIdeal.Launch
public import proofs.«01_k».proof.Proof.Gen.DwRefIdeal.Points
public import proofs.«01_k».proof.Proof.Gen.DwRefIdeal.Frame
public import proofs.«01_k».proof.Proof.Gen.DwRefIdeal.Value
public import proofs.«01_k».proof.Proof.DwValue
public import proofs.«01_k».proof.Proof.MainFrame
public import proofs.«01_k».proof.Proof.MainRun
public import proofs.«01_k».proof.Proof.MainValue
public import proofs.«01_k».proof.Proof.MainPair
public import Idealize.ShloMosaic.Lib.Claim
public import Idealize.ShloMosaic.Adequacy
public import Idealize.ShloMosaic.Init

@[expose] public section

noncomputable section

namespace Cert.Proof

open Idealize.ShloMosaic Idealize.SL.Sem Cert.Main

/-- The weight gradients of the kernel and of the reference, from the same codes, are equal. -/
theorem algebraic_dw [hDwIdeal : Cert.DwIdeal.Facts] [hDwRefIdeal : Cert.DwRefIdeal.Facts] :
    Cert.algebraic_DwIdeal_DwRefIdeal := by
  pair_intro
  · run_from Cert.DwIdeal.Gen.run_main m g
  · run_from Cert.DwRefIdeal.Value.run m' g'
    · exact (Cert.DwIdeal.Value.final4' m c).symm
    · exact (Cert.DwIdeal.Value.final5' m c).symm

theorem claim : Cert.Claim := ⟨Cert.Main.Gen.facts, Cert.MainIdeal.Gen.facts, Cert.MainRefIdeal.Gen.facts,
  Cert.Dw.Gen.facts, Cert.DwIdeal.Gen.facts, Cert.DwRefIdeal.Gen.facts,
  Cert.Main.Frame.frame, fun m ρ _ => Cert.MainIdeal.Gen.frame m ρ, fun m ρ _ => Cert.MainRefIdeal.Gen.frame m ρ,
  fun m ρ _ => Cert.Dw.Gen.frame m ρ, fun m ρ _ => Cert.DwIdeal.Gen.frame m ρ, fun m ρ _ => Cert.DwRefIdeal.Gen.frame m ρ,
  trivial, Cert.Whole.algebraic, trivial, algebraic_dw⟩

end Cert.Proof

end
